-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_domain [hPre_rows_in_domain : Cert.Pre_rows_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_domain [hPre_rows_in_domain : Cert.Pre_rows_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_rows_in_domain [hKernelIdeal : Cert.KernelIdeal.Facts] [hPre_rows_in_domain : Cert.Pre_rows_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_in_domain [hReferenceIdeal : Cert.ReferenceIdeal.Facts] [hPre_rows_in_domain : Cert.Pre_rows_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_rows_in_domain [hKernelIdeal : Cert.KernelIdeal.Facts] [hReferenceIdeal : Cert.ReferenceIdeal.Facts] [hPre_rows_in_domain : Cert.Pre_rows_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_rows_in_domain : Cert.Pre_rows_in_domain.Facts),
    quiescent_Kernel (hKernel := hKernel)
    ∧ quiescent_KernelIdeal (hKernelIdeal := hKernelIdeal)
    ∧ quiescent_KernelIdeal_pre_rows_in_domain (hKernelIdeal := hKernelIdeal) (hPre_rows_in_domain := hPre_rows_in_domain)
    ∧ quiescent_ReferenceIdeal (hReferenceIdeal := hReferenceIdeal)
    ∧ quiescent_ReferenceIdeal_pre_rows_in_domain (hReferenceIdeal := hReferenceIdeal) (hPre_rows_in_domain := hPre_rows_in_domain)
    ∧ preserves_Kernel_KernelIdeal
    ∧ algebraic_KernelIdeal_ReferenceIdeal_pre_rows_in_domain (hKernelIdeal := hKernelIdeal) (hReferenceIdeal := hReferenceIdeal) (hPre_rows_in_domain := hPre_rows_in_domain)
-- ==== Pre_rows_in_domain.lean ====
abbrev S16384x128 : Shape := ⟨2, ![16384, 128]⟩
abbrev S16384 : Shape := ⟨1, ![16384]⟩
abbrev S100x128 : Shape := ⟨2, ![100, 128]⟩
abbrev S_ : Shape := ⟨0, ![]⟩

class Facts : Prop where
  reducesTo_S16384x128_S16384_d1 : S16384x128.ReducesTo [1] S16384
  h_S_ : 0 < S_.numel
  bcast_S_S16384 : S_.BroadcastsInDim S16384 (![] : Fin 0 → Fin S16384.rank)

variable [Facts]

def fn {F : FTy → Type} [FloatOps F] (main_arg0 : FVec F S16384x128 .f32) (main_arg1 : IVec S16384 32) (main_arg2 : FVec F S100x128 .f32) : IVec S16384 1 :=
  let main_v0 : FVec F S16384x128 .f32 := mulf main_arg0 main_arg0
  let main_cst : FVec F S_ .f32 := constant S_ .f32 0x00000000#32
  let main_v1 : FVec F S16384 .f32 := (fun x v => Host.reduceAdd x v reducesTo_S16384x128_S16384_d1 h_S_) main_v0 main_cst
  let main_c : IVec S_ 32 := constantI S_ 32 0#32
  let main_v2 : IVec S16384 32 := broadcastInDim S16384 ![] bcast_S_S16384 main_c
  let main_v3 : IVec S16384 1 := cmpi .sge main_arg1 main_v2
  let main_c_0 : IVec S_ 32 := constantI S_ 32 100#32
  let main_v4 : IVec S16384 32 := broadcastInDim S16384 ![] bcast_S_S16384 main_c_0
  let main_v5 : IVec S16384 1 := cmpi .slt main_arg1 main_v4
  let main_v6 : IVec S16384 1 := andi main_v3 main_v5
  let main_cst_1 : FVec F S_ .f32 := constant S_ .f32 0x00000000#32
  let main_v7 : FVec F S16384 .f32 := broadcastInDim S16384 ![] bcast_S_S16384 main_cst_1
  let main_v8 : IVec S16384 1 := cmpf .ogt main_v1 main_v7
  let main_v9 : IVec S16384 1 := andi main_v6 main_v8
  let main_cst_2 : FVec F S_ .f32 := constant S_ .f32 0x7F800000#32
  let main_v10 : FVec F S16384 .f32 := broadcastInDim S16384 ![] bcast_S_S16384 main_cst_2
  let main_v11 : IVec S16384 1 := cmpf .olt main_v1 main_v10
  let main_v12 : IVec S16384 1 := andi main_v9 main_v11
  main_v12
-- ==== Kernel.lean ====
abbrev S16384x128 : Shape := ⟨2, ![16384, 128]⟩
abbrev S16384 : Shape := ⟨1, ![16384]⟩
abbrev S100x128 : Shape := ⟨2, ![100, 128]⟩
abbrev S8x1x2048 : Shape := ⟨3, ![8, 1, 2048]⟩
abbrev S_ : Shape := ⟨0, ![]⟩
abbrev S128x128 : Shape := ⟨2, ![128, 128]⟩
abbrev S1x1 : Shape := ⟨2, ![1, 1]⟩
abbrev S1x1x2048 : Shape := ⟨3, ![1, 1, 2048]⟩
abbrev S2048x128 : Shape := ⟨2, ![2048, 128]⟩
abbrev S1x128 : Shape := ⟨2, ![1, 128]⟩
abbrev S4 : Shape := ⟨1, ![4]⟩
abbrev S2048 : Shape := ⟨1, ![2048]⟩
abbrev S2048x1 : Shape := ⟨2, ![2048, 1]⟩
abbrev S1 : Shape := ⟨1, ![1]⟩
abbrev S128 : Shape := ⟨1, ![128]⟩
abbrev S128x1 : Shape := ⟨2, ![128, 1]⟩
abbrev S1x2048 : Shape := ⟨2, ![1, 2048]⟩

abbrev nBuf : Space → Nat
  | .hbm => 9
  | .vmem => 9
  | .smem => 1
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S100x128, .f32⟩
  | .hbm, ⟨3, _⟩ => ⟨S8x1x2048, .i32⟩
  | .hbm, ⟨4, _⟩ => ⟨S_, .i32⟩
  | .hbm, ⟨5, _⟩ => ⟨S_, .f32⟩
  | .hbm, ⟨6, _⟩ => ⟨S128x128, .f32⟩
  | .hbm, ⟨7, _⟩ => ⟨S1x1, .f32⟩
  | .hbm, ⟨8, _⟩ => ⟨S_, .f32⟩
  | .local _ .vmem, ⟨0, _⟩ => ⟨S1x1x2048, .i32⟩
  | .local _ .vmem, ⟨1, _⟩ => ⟨S1x1x2048, .i32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .smem, ⟨0, _⟩ => ⟨S4, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond5 (i : grid0.Coords) : BitVec 1 :=
  let arg0 : BitVec 32 := BitVec.ofNat 32 (i 0).val
  let c15_i32 : BitVec 32 := 15#32
  let v21 : BitVec 1 := Scalar.cmpi .eq arg0 c15_i32
  let v22 : BitVec 32 := Scalar.extui v21
  let c0_i32_10 : BitVec 32 := 0#32
  let v23 : BitVec 1 := Scalar.cmpi .ne v22 c0_i32_10
  v23

def cc0_transform_0 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16384x128 : Shape := ⟨2, ![16384, 128]⟩
abbrev S16384 : Shape := ⟨1, ![16384]⟩
abbrev S100x128 : Shape := ⟨2, ![100, 128]⟩
abbrev S_ : Shape := ⟨0, ![]⟩
abbrev S100 : Shape := ⟨1, ![100]⟩
abbrev S16384x1 : Shape := ⟨2, ![16384, 1]⟩
abbrev S128 : Shape := ⟨1, ![128]⟩
abbrev S100x1 : Shape := ⟨2, ![100, 1]⟩

abbrev nBuf : Space → Nat
  | .hbm => 157
  | .vmem => 0
  | .smem => 0
  | _ => 0

abbrev hbmTy0_0 (i : Nat) : BufTy := match i % 128 with
  | 0 => ⟨S16384x128, .f32⟩
  | 1 => ⟨S16384, .i32⟩
  | 2 => ⟨S100x128, .f32⟩
  | 3 => ⟨S_, .i32⟩
  | 4 => ⟨S100, .i32⟩
  | 5 => ⟨S_, .i32⟩
  | 6 => ⟨S_, .i32⟩
  | 7 => ⟨S16384, .i32⟩
  | 8 => ⟨S16384, .i32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S_, .i32⟩
  | 18 => ⟨S16384, .i32⟩
  | 19 => ⟨S100, .i32⟩
  | 20 => ⟨S100, .f32⟩
  | 21 => ⟨S_, .f32⟩
  | 22 => ⟨S100, .f32⟩
  | 23 => ⟨S100, .i1⟩
  | 24 => ⟨S_, .f32⟩
  | 25 => ⟨S_, .f32⟩
  | 26 => ⟨S100, .f32⟩
  | 27 => ⟨S100, .f32⟩
  | 28 => ⟨S_, .f32⟩
  | 29 => ⟨S128, .f32⟩
  | 30 => ⟨S_, .f32⟩
  | 31 => ⟨S128, .f32⟩
  | 32 => ⟨S128, .f32⟩
  | 33 => ⟨S_, .f32⟩
  | 34 => ⟨S100x128, .f32⟩
  | 35 => ⟨S16384x1, .i32⟩
  | 36 => ⟨S100x128, .f32⟩
  | 37 => ⟨S100x1, .f32⟩
  | 38 => ⟨S100x128, .f32⟩
  | 39 => ⟨S100x128, .f32⟩
  | 40 => ⟨S100x128, .i1⟩
  | 41 => ⟨S_, .f32⟩
  | 42 => ⟨S100x128, .f32⟩
  | 43 => ⟨S100x128, .f32⟩
  | 44 => ⟨S_, .f32⟩
  | 45 => ⟨S100x128, .f32⟩
  | 46 => ⟨S100x128, .i1⟩
  | 47 => ⟨S_, .f32⟩
  | 48 => ⟨S100x128, .f32⟩
  | 49 => ⟨S100x128, .f32⟩
  | 50 => ⟨S_, .f32⟩
  | 51 => ⟨S100x128, .f32⟩
  | 52 => ⟨S100x128, .i1⟩
  | 53 => ⟨S_, .f32⟩
  | 54 => ⟨S100x128, .f32⟩
  | 55 => ⟨S100x128, .f32⟩
  | 56 => ⟨S100x128, .f32⟩
  | 57 => ⟨S_, .f32⟩
  | 58 => ⟨S100, .f32⟩
  | 59 => ⟨S100, .f32⟩
  | 60 => ⟨S_, .f32⟩
  | 61 => ⟨S100, .f32⟩
  | 62 => ⟨S100, .i1⟩
  | 63 => ⟨S_, .f32⟩
  | 64 => ⟨S_, .f32⟩
  | 65 => ⟨S100, .f32⟩
  | 66 => ⟨S100, .f32⟩
  | 67 => ⟨S100, .f32⟩
  | 68 => ⟨S100, .f32⟩
  | 69 => ⟨S128, .f32⟩
  | 70 => ⟨S_, .f32⟩
  | 71 => ⟨S_, .f32⟩
  | 72 => ⟨S_, .f32⟩
  | 73 => ⟨S100, .f32⟩
  | 74 => ⟨S100, .f32⟩
  | 75 => ⟨S_, .f32⟩
  | 76 => ⟨S100, .f32⟩
  | 77 => ⟨S100, .f32⟩
  | 78 => ⟨S_, .f32⟩
  | 79 => ⟨S100, .f32⟩
  | 80 => ⟨S100, .f32⟩
  | 81 => ⟨S100, .f32⟩
  | 82 => ⟨S100, .f32⟩
  | 83 => ⟨S_, .f32⟩
  | 84 => ⟨S_, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S16384x128, .f32⟩
  | 94 => ⟨S16384x128, .f32⟩
  | 95 => ⟨S_, .f32⟩
  | 96 => ⟨S16384, .f32⟩
  | 97 => ⟨S16384x128, .f32⟩
  | 98 => ⟨S_, .f32⟩
  | 99 => ⟨S16384, .f32⟩
  | 100 => ⟨S16384, .f32⟩
  | 101 => ⟨S16384, .f32⟩
  | 102 => ⟨S16384x128, .f32⟩
  | 103 => ⟨S_, .f32⟩
  | 104 => ⟨S16384, .f32⟩
  | 105 => ⟨S16384, .f32⟩
  | 106 => ⟨S16384, .f32⟩
  | 107 => ⟨S_, .f32⟩
  | 108 => ⟨S16384, .f32⟩
  | 109 => ⟨S16384, .f32⟩
  | 110 => ⟨S16384, .f32⟩
  | 111 => ⟨S_, .f32⟩
  | 112 => ⟨S100, .f32⟩
  | 113 => ⟨S16384x1, .i32⟩
  | 114 => ⟨S100, .f32⟩
  | 115 => ⟨S_, .f32⟩
  | 116 => ⟨S100, .f32⟩
  | 117 => ⟨S100, .f32⟩
  | 118 => ⟨S100, .f32⟩
  | 119 => ⟨S_, .f32⟩
  | 120 => ⟨S100, .f32⟩
  | 121 => ⟨S100, .f32⟩
  | 122 => ⟨S100, .f32⟩
  | 123 => ⟨S_, .f32⟩
  | 124 => ⟨S_, .f32⟩
  | 125 => ⟨S_, .i32⟩
  | 126 => ⟨S16384, .i32⟩
  | 127 => ⟨S16384, .i1⟩
  | _ => ⟨S16384x128, .f32⟩

abbrev hbmTy0_1 (i : Nat) : BufTy := match i % 128 with
  | 0 => ⟨S_, .i32⟩
  | 1 => ⟨S16384, .i32⟩
  | 2 => ⟨S16384, .i32⟩
  | 3 => ⟨S16384, .i32⟩
  | 4 => ⟨S16384x1, .i32⟩
  | 5 => ⟨S16384x128, .f32⟩
  | 6 => ⟨S16384x128, .f32⟩
  | 7 => ⟨S_, .f32⟩
  | 8 => ⟨S16384, .f32⟩
  | 9 => ⟨S16384x128, .f32⟩
  | 10 => ⟨S_, .f32⟩
  | 11 => ⟨S16384, .f32⟩
  | 12 => ⟨S16384, .f32⟩
  | 13 => ⟨S16384, .f32⟩
  | 14 => ⟨S16384x128, .f32⟩
  | 15 => ⟨S_, .f32⟩
  | 16 => ⟨S16384, .f32⟩
  | 17 => ⟨S16384, .f32⟩
  | 18 => ⟨S16384, .f32⟩
  | 19 => ⟨S_, .f32⟩
  | 20 => ⟨S16384, .f32⟩
  | 21 => ⟨S16384, .f32⟩
  | 22 => ⟨S16384, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call2_v0 : Ref sig .tc := ⟨.hbm, 40, rfl⟩
abbrev main_call2_cst : Ref sig .tc := ⟨.hbm, 41, rfl⟩
abbrev main_call2_call0_v0 : Ref sig .tc := ⟨.hbm, 42, rfl⟩
abbrev main_call2_v1 : Ref sig .tc := ⟨.hbm, 43, rfl⟩
abbrev main_call2_cst_0 : Ref sig .tc := ⟨.hbm, 44, rfl⟩
abbrev main_call2_v2 : Ref sig .tc := ⟨.hbm, 45, rfl⟩
abbrev main_call2_v3 : Ref sig .tc := ⟨.hbm, 46, rfl⟩
abbrev main_call2_cst_1 : Ref sig .tc := ⟨.hbm, 47, rfl⟩
abbrev main_call2_call1_v0 : Ref sig .tc := ⟨.hbm, 48, rfl⟩
abbrev main_call2_v4 : Ref sig .tc := ⟨.hbm, 49, rfl⟩
abbrev main_call2_cst_2 : Ref sig .tc := ⟨.hbm, 50, rfl⟩
abbrev main_call2_v5 : Ref sig .tc := ⟨.hbm, 51, rfl⟩
abbrev main_call2_v6 : Ref sig .tc := ⟨.hbm, 52, rfl⟩
abbrev main_call2_cst_3 : Ref sig .tc := ⟨.hbm, 53, rfl⟩
abbrev main_call2_call2_v0 : Ref sig .tc := ⟨.hbm, 54, rfl⟩
abbrev main_v23 : Ref sig .tc := ⟨.hbm, 55, rfl⟩
abbrev main_call3_v0 : Ref sig .tc := ⟨.hbm, 56, rfl⟩
abbrev main_call3_cst : Ref sig .tc := ⟨.hbm, 57, rfl⟩
abbrev main_call3_v1 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_cst_9 : Ref sig .tc := ⟨.hbm, 63, rfl⟩
abbrev main_call4_v0 : Ref sig .tc := ⟨.hbm, 64, rfl⟩
abbrev main_call4_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call5_v0 : Ref sig .tc := ⟨.hbm, 69, rfl⟩
abbrev main_call5_cst : Ref sig .tc := ⟨.hbm, 70, rfl⟩
abbrev main_call5_v1 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_10 : Ref sig .tc := ⟨.hbm, 75, rfl⟩
abbrev main_v33 : Ref sig .tc := ⟨.hbm, 76, rfl⟩
abbrev main_v34 : Ref sig .tc := ⟨.hbm, 77, rfl⟩
abbrev main_cst_11 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_12 : Ref sig .tc := ⟨.hbm, 83, rfl⟩
abbrev main_v39 : Ref sig .tc := ⟨.hbm, 84, rfl⟩
abbrev main_c_13 : Ref sig .tc := ⟨.hbm, 85, rfl⟩
abbrev main_v40 : Ref sig .tc := ⟨.hbm, 86, rfl⟩
abbrev main_v41 : Ref sig .tc := ⟨.hbm, 87, rfl⟩
abbrev main_c_14 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_15 : Ref sig .tc := ⟨.hbm, 95, rfl⟩
abbrev main_v48 : Ref sig .tc := ⟨.hbm, 96, rfl⟩
abbrev main_call6_v0 : Ref sig .tc := ⟨.hbm, 97, rfl⟩
abbrev main_call6_cst : Ref sig .tc := ⟨.hbm, 98, rfl⟩
abbrev main_call6_v1 : Ref sig .tc := ⟨.hbm, 99, rfl⟩
abbrev main_v49 : Ref sig .tc := ⟨.hbm, 100, rfl⟩
abbrev main_v50 : Ref sig .tc := ⟨.hbm, 101, rfl⟩
abbrev main_call7_v0 : Ref sig .tc := ⟨.hbm, 102, rfl⟩
abbrev main_call7_cst : Ref sig .tc := ⟨.hbm, 103, rfl⟩
abbrev main_call7_v1 : Ref sig .tc := ⟨.hbm, 104, rfl⟩
abbrev main_v51 : Ref sig .tc := ⟨.hbm, 105, rfl⟩
abbrev main_v52 : Ref sig .tc := ⟨.hbm, 106, rfl⟩
abbrev main_cst_16 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_17 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_18 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_19 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_cst_20 : Ref sig .tc := ⟨.hbm, 123, rfl⟩
abbrev main_v65 : Ref sig .tc := ⟨.hbm, 124, rfl⟩
abbrev main_c_21 : Ref sig .tc := ⟨.hbm, 125, rfl⟩
abbrev main_v66 : Ref sig .tc := ⟨.hbm, 126, rfl⟩
abbrev main_v67 : Ref sig .tc := ⟨.hbm, 127, rfl⟩
abbrev main_c_22 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_23 : Ref sig .tc := ⟨.hbm, 135, rfl⟩
abbrev main_v74 : Ref sig .tc := ⟨.hbm, 136, rfl⟩
abbrev main_call8_v0 : Ref sig .tc := ⟨.hbm, 137, rfl⟩
abbrev main_call8_cst : Ref sig .tc := ⟨.hbm, 138, rfl⟩
abbrev main_call8_v1 : Ref sig .tc := ⟨.hbm, 139, rfl⟩
abbrev main_v75 : Ref sig .tc := ⟨.hbm, 140, rfl⟩
abbrev main_v76 : Ref sig .tc := ⟨.hbm, 141, rfl⟩
abbrev main_call9_v0 : Ref sig .tc := ⟨.hbm, 142, rfl⟩
abbrev main_call9_cst : Ref sig .tc := ⟨.hbm, 143, rfl⟩
abbrev main_call9_v1 : Ref sig .tc := ⟨.hbm, 144, rfl⟩
abbrev main_v77 : Ref sig .tc := ⟨.hbm, 145, rfl⟩
abbrev main_v78 : Ref sig .tc := ⟨.hbm, 146, rfl⟩
abbrev main_cst_24 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_25 : Ref sig .tc := ⟨.hbm, 151, rfl⟩
abbrev main_v82 : Ref sig .tc := ⟨.hbm, 152, rfl⟩
abbrev main_cst_26 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩

abbrev nD : Nat := 1
abbrev τ : Topo := Topo.v7x

variable {F : FTy → Type} [FloatOps F]
-- ==== Proof.BodyIdeal.lean ====
module

public import proofs.«01_k».proof.Proof.Gen.KernelIdeal.Frame
public import proofs.«01_k».proof.Proof.Gen.KernelIdeal.Skeleton
public import Idealize.ShloMosaic.Lib.CellWrites
public import Idealize.ShloMosaic.Lib.VecWindow
public import Idealize.ShloMosaic.Lib.ValueIdxCore
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 0).val) 0#32)) 0#32) = 1#1
abbrev cond1 (i : grid0.Coords) : Prop := (Scalar.cmpi .ne (Scalar.extui (Scalar.cmpi .slt (BitVec.ofNat 32 (i 0).val) 8#32)) 0#32) = 1#1
abbrev cond2 (i : grid0.Coords) : Prop := (Scalar.cmpi .ne (Scalar.extui (Scalar.cmpi .eq (BitVec.ofNat 32 (i 0).val) 8#32)) 0#32) = 1#1
abbrev cond3 (i : grid0.Coords) : Prop := (Scalar.cmpi .ne (Scalar.extui (Scalar.cmpi .sge (BitVec.ofNat 32 (i 0).val) 8#32)) 0#32) = 1#1
abbrev cond4 (i : grid0.Coords) : Prop := k0_cond5 i = 1#1

section Loads

variable {sp : Space} {e : EltTy}

/-- A load of the whole label block reads the block. -/
theorem ld_labels (v : View sig .tc sp S1x1x2048 e) (f : v.ty.Contents (Elt F)) :
    v.readAt (Elt F) (Rect.unit (s := S1x1x2048) ![0, 0, 0] ![1, 1, 2048] inb_S1x1x2048_S1x1x2048_0_0_0).toLoadRect f = v.read (Elt F) f := View.readAt_full v f _

/-- A load of the whole block of feature rows reads the block. -/
theorem ld_rows (v : View sig .tc sp S2048x128 e) (f : v.ty.Contents (Elt F)) :
    v.readAt (Elt F) (Rect.unit (s := S2048x128) ![0, 0] ![2048, 128] inb_S2048x128_S2048x128_0_0).toLoadRect f = v.read (Elt F) f := View.readAt_full v f _

/-- A load of a whole class table reads the table. -/
theorem ld_classes (v : View sig .tc sp S128x128 e) (f : v.ty.Contents (Elt F)) :
    v.readAt (Elt F) (Rect.unit (s := S128x128) ![0, 0] ![128, 128] inb_S128x128_S128x128_0_0).toLoadRect f = v.read (Elt F) f := View.readAt_full v f _

/-- A load of the whole row of class counts reads the row. -/
theorem ld_counts (v : View sig .tc sp S1x128 e) (f : v.ty.Contents (Elt F)) :
    v.readAt (Elt F) (Rect.unit (s := S1x128) ![0, 0] ![1, 128] inb_S1x128_S1x128_0_0).toLoadRect f = v.read (Elt F) f := View.readAt_full v f _

/-- A load of the scalar cell 0 reads cell 0. -/
theorem ld_cell0 (v : View sig .tc sp S4 e) (f : v.ty.Contents (Elt F)) (h) :
    v.readAt (Elt F) (Rect.unit (s := S4) ![0] ![1] inb_S4_S1_0).toLoadRect f (Shape.Idx.first h) = v.read (Elt F) f (ValueIdx.ix1 (0 : Fin 4)) :=
  congrArg (v.read (Elt F) f) (funext fun a => by fin_cases a; rfl)

/-- A load of the scalar cell 1 reads cell 1. -/
theorem ld_cell1 (v : View sig .tc sp S4 e) (f : v.ty.Contents (Elt F)) (h) :
    v.readAt (Elt F) (Rect.unit (s := S4) ![1] ![1] inb_S4_S1_1).toLoadRect f (Shape.Idx.first h) = v.read (Elt F) f (ValueIdx.ix1 (1 : Fin 4)) :=
  congrArg (v.read (Elt F) f) (funext fun a => by fin_cases a; rfl)

/-- A load of the scalar cell 2 reads cell 2. -/
theorem ld_cell2 (v : View sig .tc sp S4 e) (f : v.ty.Contents (Elt F)) (h) :
    v.readAt (Elt F) (Rect.unit (s := S4) ![2] ![1] inb_S4_S1_2).toLoadRect f (Shape.Idx.first h) = v.read (Elt F) f (ValueIdx.ix1 (2 : Fin 4)) :=
  congrArg (v.read (Elt F) f) (funext fun a => by fin_cases a; rfl)

/-- After a store of a whole class table the table reads what was stored. -/
theorem st_classes (v : View sig .tc sp S128x128 e) (f : v.ty.Contents (Elt F)) (w) (L : List (View.Piece (Elt F) S128x128 e)) :
    v.read (Elt F) (v.writes (Elt F) f (⟨Rect.unit (s := S128x128) ![0, 0] ![128, 128] inb_S128x128_S128x128_0_0, w⟩ :: L)) = w := View.read_writes_full v f _ w L

/-- After a store of the whole row of class counts the row reads what was stored. -/
theorem st_counts (v : View sig .tc sp S1x128 e) (f : v.ty.Contents (Elt F)) (w) (L : List (View.Piece (Elt F) S1x128 e)) :
    v.read (Elt F) (v.writes (Elt F) f (⟨Rect.unit (s := S1x128) ![0, 0] ![1, 128] inb_S1x128_S1x128_0_0, w⟩ :: L)) = w := View.read_writes_full v f _ w L

/-- A load of a whole class table after a store of it reads what was stored. -/
theorem cov_classes [∀ e, Nonempty (Elt F e)] (v : View sig .tc sp S128x128 e) (w) (L : List (View.Piece (Elt F) S128x128 e)) :
    v.readCov (⟨Rect.unit (s := S128x128) ![0, 0] ![128, 128] inb_S128x128_S128x128_0_0, w⟩ :: L) (Rect.unit (s := S128x128) ![0, 0] ![128, 128] inb_S128x128_S128x128_0_0).toLoadRect = w :=
  View.readCov_full v _ _ w L

/-- A load of the whole row of class counts after a store of it reads what was stored. -/
theorem cov_counts [∀ e, Nonempty (Elt F e)] (v : View sig .tc sp S1x128 e) (w) (L : List (View.Piece (Elt F) S1x128 e)) :
    v.readCov (⟨Rect.unit (s := S1x128) ![0, 0] ![1, 128] inb_S1x128_S1x128_0_0, w⟩ :: L) (Rect.unit (s := S1x128) ![0, 0] ![1, 128] inb_S1x128_S1x128_0_0).toLoadRect = w :=
  View.readCov_full v _ _ w L

end Loads

set_option maxHeartbeats 4000000 in
/-- The body at the first grid point: class sums and counts are reset and take in the first block, and cells 0 to 2 are zeroed. -/
theorem run_A (c : Dev nD) (i : grid0.Coords) (arg1 : Memref sig .tc .vmem S1x1x2048 .i32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .smem S4 .f32) (harg8 : arg8.IsWhole)
    (hc0 : cond0 i) (hc1 : cond1 i) (hc2 : ¬cond2 i) (hc3 : ¬cond3 i) (hc4 : ¬cond4 i)
    (x0 : Vec F S1x1x2048 .i32) (x1 : Vec F S2048x128 .f32) (x2 : Vec F S128x128 .f32) (o : Vec F S1x1 .f32)
    (cs : Vec F S128x128 .f32) (ni : Vec F S1x128 .f32) (mc : Vec F S128x128 .f32) (sc : Vec F S4 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare cs ∗ owns (c : Thread nD τ) arg6 fullShare ni ∗ owns (c : Thread nD τ) arg7 fullShare mc ∗ owns (c : Thread nD τ) arg8 fullShare sc
      ∗ (iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare (k0_pay4 x1 x0 (k0_pay2 (F := F))) ∗ owns (c : Thread nD τ) arg6 fullShare (k0_pay5 x0 (k0_pay3 (F := F))) ∗ owns (c : Thread nD τ) arg7 fullShare mc ∗ owns (c : Thread nD τ) arg8 fullShare (fun j => if (j 0).val = 2 then Scalar.ofBits .f32 0x00000000#32 else if (j 0).val = 1 then Scalar.ofBits .f32 0x00000000#32 else if (j 0).val = 0 then Scalar.ofBits .f32 0x00000000#32 else sc j)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1; obtain rfl := harg7.eq_unread hfs2; obtain rfl := harg8.eq_unread hfs3
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    unfold run_A.sl.v24 run_A.sl.HS0_1
    simp only [ld_labels, ld_rows, ld_classes, ld_counts, ld_cell0, ld_cell1, ld_cell2, st_classes, st_counts, cov_classes, cov_counts, hf0, hf1, hf2, hfs0, hfs1, hfs2, hfs3]
  isplitl [HS1]
  · iexists _; isplitr; swap; · iexact HS1
    ipureintro
    unfold run_A.sl.v30 run_A.sl.HS1_1
    simp only [ld_labels, ld_rows, ld_classes, ld_counts, ld_cell0, ld_cell1, ld_cell2, st_classes, st_counts, cov_classes, cov_counts, hf0, hf1, hf2, hfs0, hfs1, hfs2, hfs3]
  isplitl [HS2]
  · iexists _; isplitr; · ipureintro; exact harg7.read_unread _
    iexact HS2
  iexists _; isplitr; swap; · iexact HS3
  ipureintro
  funext j
  rw [View.read_writes_cons_cell, View.read_writes_cons_cell, View.read_writes_cons_cell, View.writes_nil, hfs3]
  simp only [ld_labels, ld_rows, ld_classes, ld_counts, ld_cell0, ld_cell1, ld_cell2, st_classes, st_counts, cov_classes, cov_counts, hf0, hf1, hf2, hfs0, hfs1, hfs2, hfs3, View.read_writes_cons_cell, View.writes_nil]
  rfl

set_option maxHeartbeats 4000000 in
/-- The body at points 1 to 7: class sums and counts take in one block. -/
theorem run_B (c : Dev nD) (i : grid0.Coords) (arg1 : Memref sig .tc .vmem S1x1x2048 .i32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .smem S4 .f32) (harg8 : arg8.IsWhole)
    (hc0 : ¬cond0 i) (hc1 : cond1 i) (hc2 : ¬cond2 i) (hc3 : ¬cond3 i) (hc4 : ¬cond4 i)
    (x0 : Vec F S1x1x2048 .i32) (x1 : Vec F S2048x128 .f32) (x2 : Vec F S128x128 .f32) (o : Vec F S1x1 .f32)
    (cs : Vec F S128x128 .f32) (ni : Vec F S1x128 .f32) (mc : Vec F S128x128 .f32) (sc : Vec F S4 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare cs ∗ owns (c : Thread nD τ) arg6 fullShare ni ∗ owns (c : Thread nD τ) arg7 fullShare mc ∗ owns (c : Thread nD τ) arg8 fullShare sc
      ∗ (iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare (k0_pay4 x1 x0 cs) ∗ owns (c : Thread nD τ) arg6 fullShare (k0_pay5 x0 ni) ∗ owns (c : Thread nD τ) arg7 fullShare mc ∗ owns (c : Thread nD τ) arg8 fullShare sc) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1; obtain rfl := harg7.eq_unread hfs2; obtain rfl := harg8.eq_unread hfs3
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    simp only [ld_labels, ld_rows, ld_classes, ld_counts, ld_cell0, ld_cell1, ld_cell2, st_classes, st_counts, cov_classes, cov_counts, hf0, hf1, hf2, hfs0, hfs1, hfs2, hfs3]
  isplitl [HS1]
  · iexists _; isplitr; swap; · iexact HS1
    ipureintro
    simp only [ld_labels, ld_rows, ld_classes, ld_counts, ld_cell0, ld_cell1, ld_cell2, st_classes, st_counts, cov_classes, cov_counts, hf0, hf1, hf2, hfs0, hfs1, hfs2, hfs3]
  isplitl [HS2]
  · iexists _; isplitr; · ipureintro; exact harg7.read_unread _
    iexact HS2
  iexists _; isplitr; · ipureintro; exact harg8.read_unread _
  iexact HS3

set_option maxHeartbeats 4000000 in
/-- The body at point 8: class means and the between-class sum are stored, and the two running sums take in the first block of the second sweep. -/
theorem run_C (c : Dev nD) (i : grid0.Coords) (arg1 : Memref sig .tc .vmem S1x1x2048 .i32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .smem S4 .f32) (harg8 : arg8.IsWhole)
    (hc0 : ¬cond0 i) (hc1 : ¬cond1 i) (hc2 : cond2 i) (hc3 : cond3 i) (hc4 : ¬cond4 i)
    (x0 : Vec F S1x1x2048 .i32) (x1 : Vec F S2048x128 .f32) (x2 : Vec F S128x128 .f32) (o : Vec F S1x1 .f32)
    (cs : Vec F S128x128 .f32) (ni : Vec F S1x128 .f32) (mc : Vec F S128x128 .f32) (sc : Vec F S4 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare cs ∗ owns (c : Thread nD τ) arg6 fullShare ni ∗ owns (c : Thread nD τ) arg7 fullShare mc ∗ owns (c : Thread nD τ) arg8 fullShare sc
      ∗ (iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare cs ∗ owns (c : Thread nD τ) arg6 fullShare ni ∗ owns (c : Thread nD τ) arg7 fullShare (k0_pay10 cs ni) ∗ owns (c : Thread nD τ) arg8 fullShare (fun j => if (j 0).val = 1 then k0_pay14 x1 (k0_pay1 x0) x2 (sc (ValueIdx.ix1 (1 : Fin 4))) else if (j 0).val = 0 then k0_pay13 x1 (k0_pay1 x0) (k0_pay10 cs ni) (sc (ValueIdx.ix1 (0 : Fin 4))) else if (j 0).val = 2 then k0_pay6 (k0_pay11 cs ni) else sc j)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1; obtain rfl := harg7.eq_unread hfs2; obtain rfl := harg8.eq_unread hfs3
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; · ipureintro; exact harg5.read_unread _
    iexact HS0
  isplitl [HS1]
  · iexists _; isplitr; · ipureintro; exact harg6.read_unread _
    iexact HS1
  isplitl [HS2]
  · iexists _; isplitr; swap; · iexact HS2
    ipureintro
    unfold run_C.sl.HS2_1
    simp only [ld_labels, ld_rows, ld_classes, ld_counts, ld_cell0, ld_cell1, ld_cell2, st_classes, st_counts, cov_classes, cov_counts, hf0, hf1, hf2, hfs0, hfs1, hfs2, hfs3]
  iexists _; isplitr; swap; · iexact HS3
  ipureintro
  unfold run_C.sl.r_4 run_C.sl.v24 run_C.sl.HS2_1 run_C.sl.r_2 run_C.sl.r run_C.sl.r_3 run_C.sl.f run_C.sl.f_1
  funext j
  rw [View.read_writes_cons_cell, View.read_writes_cons_cell, View.read_writes_cons_cell, View.writes_nil, hfs3]
  simp only [ld_labels, ld_rows, ld_classes, ld_counts, ld_cell0, ld_cell1, ld_cell2, st_classes, st_counts, cov_classes, cov_counts, hf0, hf1, hf2, hfs0, hfs1, hfs2, hfs3, View.read_writes_cons_cell, View.writes_nil]
  rfl

set_option maxHeartbeats 4000000 in
/-- The body at points 9 to 14: the two running sums take in one block. -/
theorem run_D (c : Dev nD) (i : grid0.Coords) (arg1 : Memref sig .tc .vmem S1x1x2048 .i32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .smem S4 .f32) (harg8 : arg8.IsWhole)
    (hc0 : ¬cond0 i) (hc1 : ¬cond1 i) (hc2 : ¬cond2 i) (hc3 : cond3 i) (hc4 : ¬cond4 i)
    (x0 : Vec F S1x1x2048 .i32) (x1 : Vec F S2048x128 .f32) (x2 : Vec F S128x128 .f32) (o : Vec F S1x1 .f32)
    (cs : Vec F S128x128 .f32) (ni : Vec F S1x128 .f32) (mc : Vec F S128x128 .f32) (sc : Vec F S4 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare cs ∗ owns (c : Thread nD τ) arg6 fullShare ni ∗ owns (c : Thread nD τ) arg7 fullShare mc ∗ owns (c : Thread nD τ) arg8 fullShare sc
      ∗ (iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare cs ∗ owns (c : Thread nD τ) arg6 fullShare ni ∗ owns (c : Thread nD τ) arg7 fullShare mc ∗ owns (c : Thread nD τ) arg8 fullShare (fun j => if (j 0).val = 1 then k0_pay14 x1 (k0_pay1 x0) x2 (sc (ValueIdx.ix1 (1 : Fin 4))) else if (j 0).val = 0 then k0_pay13 x1 (k0_pay1 x0) mc (sc (ValueIdx.ix1 (0 : Fin 4))) else sc j)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1; obtain rfl := harg7.eq_unread hfs2; obtain rfl := harg8.eq_unread hfs3
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; · ipureintro; exact harg5.read_unread _
    iexact HS0
  isplitl [HS1]
  · iexists _; isplitr; · ipureintro; exact harg6.read_unread _
    iexact HS1
  isplitl [HS2]
  · iexists _; isplitr; · ipureintro; exact harg7.read_unread _
    iexact HS2
  iexists _; isplitr; swap; · iexact HS3
  ipureintro
  unfold run_D.sl.r_2 run_D.sl.r_1 run_D.sl.r run_D.sl.f
  funext j
  rw [View.read_writes_cons_cell, View.read_writes_cons_cell, View.writes_nil, hfs3]
  simp only [ld_labels, ld_rows, ld_classes, ld_counts, ld_cell0, ld_cell1, ld_cell2, st_classes, st_counts, cov_classes, cov_counts, hf0, hf1, hf2, hfs0, hfs1, hfs2, hfs3, View.read_writes_cons_cell, View.writes_nil]
  rfl

set_option maxHeartbeats 4000000 in
/-- The body at the last point: the two running sums take in the last block and the loss is stored. -/
theorem run_E (c : Dev nD) (i : grid0.Coords) (arg1 : Memref sig .tc .vmem S1x1x2048 .i32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .smem S4 .f32) (harg8 : arg8.IsWhole)
    (hc0 : ¬cond0 i) (hc1 : ¬cond1 i) (hc2 : ¬cond2 i) (hc3 : cond3 i) (hc4 : cond4 i)
    (x0 : Vec F S1x1x2048 .i32) (x1 : Vec F S2048x128 .f32) (x2 : Vec F S128x128 .f32) (o : Vec F S1x1 .f32)
    (cs : Vec F S128x128 .f32) (ni : Vec F S1x128 .f32) (mc : Vec F S128x128 .f32) (sc : Vec F S4 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare cs ∗ owns (c : Thread nD τ) arg6 fullShare ni ∗ owns (c : Thread nD τ) arg7 fullShare mc ∗ owns (c : Thread nD τ) arg8 fullShare sc
      ∗ (iprop(owns (c : Thread nD τ) arg1 fullShare x0 ∗ owns (c : Thread nD τ) arg2 fullShare x1 ∗ owns (c : Thread nD τ) arg3 fullShare x2 ∗ owns (c : Thread nD τ) arg4 fullShare (k0_pay7 (k0_pay13 x1 (k0_pay1 x0) mc (sc (ValueIdx.ix1 (0 : Fin 4)))) (sc (ValueIdx.ix1 (2 : Fin 4))) (k0_pay14 x1 (k0_pay1 x0) x2 (sc (ValueIdx.ix1 (1 : Fin 4))))) ∗ owns (c : Thread nD τ) arg5 fullShare cs ∗ owns (c : Thread nD τ) arg6 fullShare ni ∗ owns (c : Thread nD τ) arg7 fullShare mc ∗ owns (c : Thread nD τ) arg8 fullShare (fun j => if (j 0).val = 1 then k0_pay14 x1 (k0_pay1 x0) x2 (sc (ValueIdx.ix1 (1 : Fin 4))) else if (j 0).val = 0 then k0_pay13 x1 (k0_pay1 x0) mc (sc (ValueIdx.ix1 (0 : Fin 4))) else sc j)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1; obtain rfl := harg7.eq_unread hfs2; obtain rfl := harg8.eq_unread hfs3
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (View.read_writes_full arg4.view _ inb_S1x1_S1x1_0_0 _ _).trans ?_
    unfold run_E.sl.r_5 run_E.sl.r_4 run_E.sl.r_2 run_E.sl.r_1 run_E.sl.r run_E.sl.f run_E.sl.f_2
    simp only [ld_labels, ld_rows, ld_classes, ld_counts, ld_cell0, ld_cell1, ld_cell2, hf0, hf1, hf2, hfs0, hfs1, hfs2, hfs3]
  isplitl [HS0]
  · iexists _; isplitr; · ipureintro; exact harg5.read_unread _
    iexact HS0
  isplitl [HS1]
  · iexists _; isplitr; · ipureintro; exact harg6.read_unread _
    iexact HS1
  isplitl [HS2]
  · iexists _; isplitr; · ipureintro; exact harg7.read_unread _
    iexact HS2
  iexists _; isplitr; swap; · iexact HS3
  ipureintro
  unfold run_E.sl.r_2 run_E.sl.r_1 run_E.sl.r run_E.sl.f
  funext j
  rw [View.read_writes_cons_cell, View.read_writes_cons_cell, View.writes_nil, hfs3]
  simp only [ld_labels, ld_rows, ld_classes, ld_counts, ld_cell0, ld_cell1, ld_cell2, st_classes, st_counts, cov_classes, cov_counts, hf0, hf1, hf2, hfs0, hfs1, hfs2, hfs3, View.read_writes_cons_cell, View.writes_nil]
  rfl

end Cert.KernelIdeal.Body
end
-- ==== Proof.LaunchIdeal.lean ====
module

public import proofs.«01_k».proof.Proof.BodyIdeal

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold, point by point -/

/-- The feature rows staged at point `n`. -/
def fblk (c : Dev nD) (n : ℕ) : Vec F S2048x128 .f32 := if h : n < cfg0.N then iblk m c 1 ⟨n, h⟩ else fun _ => Scalar.ofBits .f32 0x00000000#32
/-- The labels staged at point `n`. -/
def lblk (c : Dev nD) (n : ℕ) : Vec F S1x1x2048 .i32 := if h : n < cfg0.N then iblk m c 0 ⟨n, h⟩ else fun _ => (0 : BitVec 32)
/-- The centers staged at point `n`. -/
def cblk (c : Dev nD) (n : ℕ) : Vec F S128x128 .f32 := if h : n < cfg0.N then iblk m c 2 ⟨n, h⟩ else fun _ => Scalar.ofBits .f32 0x00000000#32

theorem fblk_eq (c : Dev nD) (t : Fin cfg0.N) : fblk m c t.val = iblk m c 1 t := dif_pos t.isLt
theorem lblk_eq (c : Dev nD) (t : Fin cfg0.N) : lblk m c t.val = iblk m c 0 t := dif_pos t.isLt
theorem cblk_eq (c : Dev nD) (t : Fin cfg0.N) : cblk m c t.val = iblk m c 2 t := dif_pos t.isLt

/-- The class sums of the first `n` blocks. -/
def csAt (c : Dev nD) : ℕ → Vec F S128x128 .f32
  | 0 => k0_pay2 (F := F)
  | n + 1 => k0_pay4 (fblk m c n) (lblk m c n) (csAt c n)
/-- The class counts of the first `n` blocks. -/
def niAt (c : Dev nD) : ℕ → Vec F S1x128 .f32
  | 0 => k0_pay3 (F := F)
  | n + 1 => k0_pay5 (lblk m c n) (niAt c n)
/-- The class means. -/
def mcv (c : Dev nD) : Vec F S128x128 .f32 := k0_pay10 (csAt m c 8) (niAt m c 8)
/-- The between-class sum. -/
def s2v (c : Dev nD) : Elt F .f32 := k0_pay6 (k0_pay11 (csAt m c 8) (niAt m c 8))
/-- The within-class running sum over the first `k` blocks of the second sweep. -/
def s0At (c : Dev nD) : ℕ → Elt F .f32
  | 0 => Scalar.ofBits .f32 0x00000000#32
  | k + 1 => k0_pay13 (fblk m c (8 + k)) (k0_pay1 (lblk m c (8 + k))) (mcv m c) (s0At c k)
/-- The center running sum over the first `k` blocks of the second sweep. -/
def s1At (c : Dev nD) : ℕ → Elt F .f32
  | 0 => Scalar.ofBits .f32 0x00000000#32
  | k + 1 => k0_pay14 (fblk m c (8 + k)) (k0_pay1 (lblk m c (8 + k))) (cblk m c (8 + k)) (s1At c k)
/-- The loss block. -/
def outv (c : Dev nD) : Vec F S1x1 .f32 := k0_pay7 (s0At m c 8) (s2v m c) (s1At m c 8)

/-- What is known of the four scratch buffers before point `n`: nothing before the first point; then the sums and
    counts of the blocks seen in the first sweep, and, once the second sweep has begun, the means, the between-class
    sum and the two running sums. -/
def St (c : Dev nD) (n : ℕ) (cs : Vec F S128x128 .f32) (ni : Vec F S1x128 .f32) (mc : Vec F S128x128 .f32) (sc : Vec F S4 .f32) : Prop :=
  0 < n → cs = csAt m c (min n 8) ∧ ni = niAt m c (min n 8) ∧ (8 < n → mc = mcv m c ∧ sc (ValueIdx.ix1 (2 : Fin 4)) = s2v m c)
    ∧ sc (ValueIdx.ix1 (0 : Fin 4)) = s0At m c (n - 8) ∧ sc (ValueIdx.ix1 (1 : Fin 4)) = s1At m c (n - 8)

variable {m}
variable {c : Dev nD} {n : ℕ} {cs : Vec F S128x128 .f32} {ni : Vec F S1x128 .f32} {mc : Vec F S128x128 .f32} {sc : Vec F S4 .f32}

theorem step_A (hn : n = 0) :
    St m c (n + 1) (k0_pay4 (fblk m c n) (lblk m c n) (k0_pay2 (F := F))) (k0_pay5 (lblk m c n) (k0_pay3 (F := F))) mc
      (fun j => if (j 0).val = 2 then Scalar.ofBits .f32 0x00000000#32 else if (j 0).val = 1 then Scalar.ofBits .f32 0x00000000#32 else if (j 0).val = 0 then Scalar.ofBits .f32 0x00000000#32 else sc j) := by
  subst hn
  exact fun _ => ⟨rfl, rfl, fun h => absurd h (by decide), rfl, rfl⟩

theorem step_B (hn : 0 < n) (hn8 : n < 8) (h : St m c n cs ni mc sc) :
    St m c (n + 1) (k0_pay4 (fblk m c n) (lblk m c n) cs) (k0_pay5 (lblk m c n) ni) mc sc := by
  obtain ⟨h1, h2, -, h4, h5⟩ := h hn
  rw [Nat.min_eq_left hn8.le] at h1 h2
  rw [Nat.sub_eq_zero_of_le hn8.le] at h4 h5
  intro _
  rw [Nat.min_eq_left (Nat.succ_le_of_lt hn8), Nat.sub_eq_zero_of_le (Nat.succ_le_of_lt hn8)]
  refine ⟨?_, ?_, fun h8 => absurd h8 (by omega), h4, h5⟩
  · rw [h1]; rfl
  · rw [h2]; rfl

theorem step_C (hn : n = 8) (h : St m c n cs ni mc sc) :
    St m c (n + 1) cs ni (k0_pay10 cs ni)
      (fun j => if (j 0).val = 1 then k0_pay14 (fblk m c n) (k0_pay1 (lblk m c n)) (cblk m c n) (sc (ValueIdx.ix1 (1 : Fin 4))) else if (j 0).val = 0 then k0_pay13 (fblk m c n) (k0_pay1 (lblk m c n)) (k0_pay10 cs ni) (sc (ValueIdx.ix1 (0 : Fin 4))) else if (j 0).val = 2 then k0_pay6 (k0_pay11 cs ni) else sc j) := by
  subst hn
  obtain ⟨h1, h2, -, h4, h5⟩ := h (by decide)
  rw [show min 8 8 = 8 from rfl] at h1 h2
  rw [show 8 - 8 = 0 from rfl] at h4 h5
  subst h1 h2
  refine fun _ => ⟨rfl, rfl, fun _ => ⟨rfl, rfl⟩, ?_, ?_⟩
  · show k0_pay13 _ _ _ (sc _) = _
    rw [h4]; rfl
  · show k0_pay14 _ _ _ (sc _) = _
    rw [h5]; rfl

theorem step_D (hn : 8 < n) (h : St m c n cs ni mc sc) :
    St m c (n + 1) cs ni mc
      (fun j => if (j 0).val = 1 then k0_pay14 (fblk m c n) (k0_pay1 (lblk m c n)) (cblk m c n) (sc (ValueIdx.ix1 (1 : Fin 4))) else if (j 0).val = 0 then k0_pay13 (fblk m c n) (k0_pay1 (lblk m c n)) mc (sc (ValueIdx.ix1 (0 : Fin 4))) else sc j) := by
  obtain ⟨k, rfl⟩ : ∃ k, n = 8 + k := ⟨n - 8, by omega⟩
  obtain ⟨h1, h2, h3, h4, h5⟩ := h (by omega)
  obtain ⟨h3, h6⟩ := h3 hn
  rw [Nat.min_eq_right (by omega)] at h1 h2
  rw [Nat.add_sub_cancel_left] at h4 h5
  intro _
  rw [Nat.min_eq_right (by omega), show 8 + k + 1 - 8 = k + 1 by omega]
  refine ⟨h1, h2, fun _ => ⟨h3, h6⟩, ?_, ?_⟩
  · show k0_pay13 _ _ _ (sc _) = _
    rw [h4, h3]; rfl
  · show k0_pay14 _ _ _ (sc _) = _
    rw [h5]; rfl

/-- At the last point the stored block is the loss. -/
theorem out_E (hn : n = 15) (h : St m c n cs ni mc sc) :
    k0_pay7 (k0_pay13 (fblk m c n) (k0_pay1 (lblk m c n)) mc (sc (ValueIdx.ix1 (0 : Fin 4)))) (sc (ValueIdx.ix1 (2 : Fin 4))) (k0_pay14 (fblk m c n) (k0_pay1 (lblk m c n)) (cblk m c n) (sc (ValueIdx.ix1 (1 : Fin 4)))) = outv m c := by
  subst hn
  obtain ⟨-, -, h3, h4, h5⟩ := h (by decide)
  obtain ⟨h3, h6⟩ := h3 (by decide)
  rw [h4, h5, h6, h3]; rfl

variable (m)

/-! ## The grid's points -/

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val < 8 :=
  (by decide +kernel : ∀ t : Fin grid0.N, cond1 (grid0.coords t) ↔ t.val < 8)
theorem hcond2 : ∀ t : Fin cfg0.N, cond2 (grid0.coords t) ↔ t.val = 8 :=
  (by decide +kernel : ∀ t : Fin grid0.N, cond2 (grid0.coords t) ↔ t.val = 8)
theorem hcond3 : ∀ t : Fin cfg0.N, cond3 (grid0.coords t) ↔ 8 ≤ t.val :=
  (by decide +kernel : ∀ t : Fin grid0.N, cond3 (grid0.coords t) ↔ 8 ≤ t.val)
theorem hcond4 : ∀ t : Fin cfg0.N, cond4 (grid0.coords t) ↔ t.val = 15 :=
  (by decide +kernel : ∀ t : Fin grid0.N, cond4 (grid0.coords t) ↔ t.val = 15)

/-- The output window is idle before the last point, -/
theorem idle3 : ∀ t : Fin cfg0.N, t.val ≠ 15 → cfg0.idle 3 (grid0.coords t) = true :=
  (by decide +kernel : ∀ t : Fin cfg0.N, t.val ≠ 15 → cfg0.idle 3 (grid0.coords t) = true)
/-- is not written back there, -/
theorem noFlush3 : ∀ t : Fin cfg0.N, t.val ≠ 15 → (cfg0.win 3).flush t = false :=
  (by decide +kernel : ∀ t : Fin cfg0.N, t.val ≠ 15 → (cfg0.win 3).flush t = false)
/-- and is live at the last point. -/
theorem live3 : ∀ t : Fin cfg0.N, t.val = 15 → cfg0.idle 3 (grid0.coords t) = false :=
  (by decide +kernel : ∀ t : Fin cfg0.N, t.val = 15 → cfg0.idle 3 (grid0.coords t) = false)

/-- The staging buffers current at a point. -/
abbrev st0 (t : Fin cfg0.N) : Memref sig .tc .vmem S1x1x2048 .i32 := win0_0.stage (cfg0.slots t 0)
abbrev st1 (t : Fin cfg0.N) : Memref sig .tc .vmem S2048x128 .f32 := win0_1.stage (cfg0.slots t 1)
abbrev st2 (t : Fin cfg0.N) : Memref sig .tc .vmem S128x128 .f32 := win0_2.stage (cfg0.slots t 2)
abbrev st3 (t : Fin cfg0.N) : Memref sig .tc .vmem S1x1 .f32 := win0_3.stage (cfg0.slots t 3)
/-- The scratch buffers. -/
abbrev scr0 : Memref sig .tc .vmem S128x128 .f32 := Memref.whole cc0_scratch0
abbrev scr1 : Memref sig .tc .vmem S1x128 .f32 := Memref.whole cc0_scratch1
abbrev scr2 : Memref sig .tc .vmem S128x128 .f32 := Memref.whole cc0_scratch2
abbrev scr3 : Memref sig .tc .smem S4 .f32 := Memref.whole cc0_scratch3

/-- What the launch hands over, with the scratch buffers as memrefs owned at some contents. -/
theorem start_eq (c : Dev nD) : (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- The invariant before point `n`: the scratch buffers at contents of which `St` holds. -/
def Inv (c : Dev nD) (n : ℕ) : sProp 𝕄 :=
  iprop(∃ cs ni mc sc, ⌜St m c n cs ni mc sc⌝ ∗ owns (c : Thread nD τ) scr0 fullShare cs ∗ owns (c : Thread nD τ) scr1 fullShare ni
    ∗ owns (c : Thread nD τ) scr2 fullShare mc ∗ owns (c : Thread nD τ) scr3 fullShare sc ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outv m c
  Φ t := Inv m c t.val
  q _ := fullShare
  owed _ := 0

theorem dats_arr (c : Dev nD) (w : Fin cfg0.W) : (dats m 0 c).A w = V m c (Pipeline.arrRef spec0 w) := by
  dsimp only [dats]
theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = outv m c := by dsimp only [dats]
theorem dats_before0 (c : Dev nD) (t : Fin cfg0.N) (d) : (dats m 0 c).before 0 t d = lblk m c t.val :=
  (before0_0_of m (dats m 0 c) (dats_arr m c 0) (dats_after0 m c) t d).trans (lblk_eq m c t).symm
theorem dats_before1 (c : Dev nD) (t : Fin cfg0.N) (d) : (dats m 0 c).before 1 t d = fblk m c t.val :=
  (before0_1_of m (dats m 0 c) (dats_arr m c 1) (dats_after1 m c) t d).trans (fblk_eq m c t).symm
theorem dats_before2 (c : Dev nD) (t : Fin cfg0.N) (d) : (dats m 0 c).before 2 t d = cblk m c t.val :=
  (before0_2_of m (dats m 0 c) (dats_arr m c 2) (dats_after2 m c) t d).trans (cblk_eq m c t).symm

theorem leaves0 (c : Dev nD) (t : Fin cfg0.N) : (dats m 0 c).leavesExact 0 t = owns (c : Thread nD τ) (st0 t) fullShare (lblk m c t.val) := by
  rw [lblk_eq]; unfold Dat.leavesExact; rw [show cfg0.idle 0 (grid0.coords t) = false from rfl, dats_after0]
theorem leaves1 (c : Dev nD) (t : Fin cfg0.N) : (dats m 0 c).leavesExact 1 t = owns (c : Thread nD τ) (st1 t) fullShare (fblk m c t.val) := by
  rw [fblk_eq]; unfold Dat.leavesExact; rw [show cfg0.idle 1 (grid0.coords t) = false from rfl, dats_after1]
theorem leaves2 (c : Dev nD) (t : Fin cfg0.N) : (dats m 0 c).leavesExact 2 t = owns (c : Thread nD τ) (st2 t) fullShare (cblk m c t.val) := by
  rw [cblk_eq]; unfold Dat.leavesExact; rw [show cfg0.idle 2 (grid0.coords t) = false from rfl, dats_after2]
theorem leaves3 (c : Dev nD) (t : Fin cfg0.N) (h : t.val = 15) : (dats m 0 c).leavesExact 3 t = owns (c : Thread nD τ) (st3 t) fullShare (outv m c) := by
  unfold Dat.leavesExact; rw [live3 t h, dats_after3]

set_option maxHeartbeats 4000000 in
/-- The body's triple at every point of the grid. -/
theorem body_triple (c : Dev nD) (t : Fin cfg0.N) :
    iprop(Inv m c t.val ∗ (dats m 0 c).owesAt () t.castSucc
      ∗ (∃ d, owns (c : Thread nD τ) (st0 t) fullShare ((dats m 0 c).before 0 t d))
      ∗ (∃ d, owns (c : Thread nD τ) (st1 t) fullShare ((dats m 0 c).before 1 t d))
      ∗ (∃ d, owns (c : Thread nD τ) (st2 t) fullShare ((dats m 0 c).before 2 t d))
      ∗ (∃ d, owns (c : Thread nD τ) (st3 t) fullShare ((dats m 0 c).before 3 t d)))
    ⊢ wp frame (wpE (defs₀ (F := F)) Variants.none c none) Set.univ (bodyAt0 t) (fun _ =>
      iprop(Inv m c (t.val + 1) ∗ (dats m 0 c).owesAt () t.castSucc
        ∗ (dats m 0 c).leavesExact 0 t ∗ (dats m 0 c).leavesExact 1 t ∗ (dats m 0 c).leavesExact 2 t ∗ (dats m 0 c).leavesExact 3 t)) := by
  unfold bodyAt0
  simp only [dats_before0, dats_before1, dats_before2, leaves0, leaves1, leaves2]
  have hN : t.val < 16 := lt_of_lt_of_eq t.isLt (show cfg0.N = 16 from N_0)
  unfold Inv
  rcases (by omega : t.val = 0 ∨ (0 < t.val ∧ t.val < 8) ∨ t.val = 8 ∨ (8 < t.val ∧ t.val < 15) ∨ t.val = 15) with h | h | h | h | h
  · rw [Dat.leavesExact_idle (dats m 0 c) 3 t (idle3 t (by omega)) (noFlush3 t (by omega))]
    iintro ⟨⟨%cs, %ni, %mc, %sc, %hs, HS0, HS1, HS2, HS3, Hg⟩, Ho, ⟨%d0, H0⟩, ⟨%d1, H1⟩, ⟨%d2, H2⟩, ⟨%d3, H3⟩⟩
    iapply (run_A c (grid0.coords t) _ _ _ _ _ _ _ _ _ _ _ _ _ _ _ _ ((hcond0 t).mpr (by omega)) ((hcond1 t).mpr (by omega)) (fun hc => absurd ((hcond2 t).mp hc) (by omega)) (fun hc => absurd ((hcond3 t).mp hc) (by omega)) (fun hc => absurd ((hcond4 t).mp hc) (by omega))
      (lblk m c t.val) (fblk m c t.val) (cblk m c t.val) _ cs ni mc sc Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · iexists _, _, _, _
      isplitr; swap
      · isplitl [HS0]; · iexact HS0
        isplitl [HS1]; · iexact HS1
        isplitl [HS2]; · iexact HS2
        isplitl [HS3]; · iexact HS3
        iexact Hg
      ipureintro; exact step_A h
    isplitl [Ho]; · iexact Ho
    isplitl [H0]; · iexact H0
    isplitl [H1]; · iexact H1
    isplitl [H2]; · iexact H2
    iexists _; iexact H3
  · rw [Dat.leavesExact_idle (dats m 0 c) 3 t (idle3 t (by omega)) (noFlush3 t (by omega))]
    iintro ⟨⟨%cs, %ni, %mc, %sc, %hs, HS0, HS1, HS2, HS3, Hg⟩, Ho, ⟨%d0, H0⟩, ⟨%d1, H1⟩, ⟨%d2, H2⟩, ⟨%d3, H3⟩⟩
    iapply (run_B c (grid0.coords t) _ _ _ _ _ _ _ _ _ _ _ _ _ _ _ _ (fun hc => absurd ((hcond0 t).mp hc) (by omega)) ((hcond1 t).mpr (by omega)) (fun hc => absurd ((hcond2 t).mp hc) (by omega)) (fun hc => absurd ((hcond3 t).mp hc) (by omega)) (fun hc => absurd ((hcond4 t).mp hc) (by omega))
      (lblk m c t.val) (fblk m c t.val) (cblk m c t.val) _ cs ni mc sc Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · iexists _, _, _, _
      isplitr; swap
      · isplitl [HS0]; · iexact HS0
        isplitl [HS1]; · iexact HS1
        isplitl [HS2]; · iexact HS2
        isplitl [HS3]; · iexact HS3
        iexact Hg
      ipureintro; exact step_B h.1 h.2 hs
    isplitl [Ho]; · iexact Ho
    isplitl [H0]; · iexact H0
    isplitl [H1]; · iexact H1
    isplitl [H2]; · iexact H2
    iexists _; iexact H3
  · rw [Dat.leavesExact_idle (dats m 0 c) 3 t (idle3 t (by omega)) (noFlush3 t (by omega))]
    iintro ⟨⟨%cs, %ni, %mc, %sc, %hs, HS0, HS1, HS2, HS3, Hg⟩, Ho, ⟨%d0, H0⟩, ⟨%d1, H1⟩, ⟨%d2, H2⟩, ⟨%d3, H3⟩⟩
    iapply (run_C c (grid0.coords t) _ _ _ _ _ _ _ _ _ _ _ _ _ _ _ _ (fun hc => absurd ((hcond0 t).mp hc) (by omega)) (fun hc => absurd ((hcond1 t).mp hc) (by omega)) ((hcond2 t).mpr (by omega)) ((hcond3 t).mpr (by omega)) (fun hc => absurd ((hcond4 t).mp hc) (by omega))
      (lblk m c t.val) (fblk m c t.val) (cblk m c t.val) _ cs ni mc sc Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · iexists _, _, _, _
      isplitr; swap
      · isplitl [HS0]; · iexact HS0
        isplitl [HS1]; · iexact HS1
        isplitl [HS2]; · iexact HS2
        isplitl [HS3]; · iexact HS3
        iexact Hg
      ipureintro; exact step_C h hs
    isplitl [Ho]; · iexact Ho
    isplitl [H0]; · iexact H0
    isplitl [H1]; · iexact H1
    isplitl [H2]; · iexact H2
    iexists _; iexact H3
  · rw [Dat.leavesExact_idle (dats m 0 c) 3 t (idle3 t (by omega)) (noFlush3 t (by omega))]
    iintro ⟨⟨%cs, %ni, %mc, %sc, %hs, HS0, HS1, HS2, HS3, Hg⟩, Ho, ⟨%d0, H0⟩, ⟨%d1, H1⟩, ⟨%d2, H2⟩, ⟨%d3, H3⟩⟩
    iapply (run_D c (grid0.coords t) _ _ _ _ _ _ _ _ _ _ _ _ _ _ _ _ (fun hc => absurd ((hcond0 t).mp hc) (by omega)) (fun hc => absurd ((hcond1 t).mp hc) (by omega)) (fun hc => absurd ((hcond2 t).mp hc) (by omega)) ((hcond3 t).mpr (by omega)) (fun hc => absurd ((hcond4 t).mp hc) (by omega))
      (lblk m c t.val) (fblk m c t.val) (cblk m c t.val) _ cs ni mc sc Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · iexists _, _, _, _
      isplitr; swap
      · isplitl [HS0]; · iexact HS0
        isplitl [HS1]; · iexact HS1
        isplitl [HS2]; · iexact HS2
        isplitl [HS3]; · iexact HS3
        iexact Hg
      ipureintro; exact step_D h.1 hs
    isplitl [Ho]; · iexact Ho
    isplitl [H0]; · iexact H0
    isplitl [H1]; · iexact H1
    isplitl [H2]; · iexact H2
    iexists _; iexact H3
  · rw [leaves3 m c t h]
    iintro ⟨⟨%cs, %ni, %mc, %sc, %hs, HS0, HS1, HS2, HS3, Hg⟩, Ho, ⟨%d0, H0⟩, ⟨%d1, H1⟩, ⟨%d2, H2⟩, ⟨%d3, H3⟩⟩
    iapply (run_E c (grid0.coords t) _ _ _ _ _ _ _ _ _ _ _ _ _ _ _ _ (fun hc => absurd ((hcond0 t).mp hc) (by omega)) (fun hc => absurd ((hcond1 t).mp hc) (by omega)) (fun hc => absurd ((hcond2 t).mp hc) (by omega)) ((hcond3 t).mpr (by omega)) ((hcond4 t).mpr (by omega))
      (lblk m c t.val) (fblk m c t.val) (cblk m c t.val) _ cs ni mc sc Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · iexists _, _, _, _
      isplitr; swap
      · isplitl [HS0]; · iexact HS0
        isplitl [HS1]; · iexact HS1
        isplitl [HS2]; · iexact HS2
        isplitl [HS3]; · iexact HS3
        iexact Hg
      ipureintro; exact step_D (by omega) hs
    isplitl [Ho]; · iexact Ho
    isplitl [H0]; · iexact H0
    isplitl [H1]; · iexact H1
    isplitl [H2]; · iexact H2
    rw [← out_E h hs]; iexact H3

/-- The body table's row at a point is the body on that point's staging buffers. -/
theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_triple m c t) rfl .rfl fun _ => .rfl

theorem inv_start (c : Dev nD) : Pipeline.ΦA spec0 c ⊢ (dats m 0 c).Φ 0 := by
  rw [show (dats m 0 c).Φ 0 = Inv m c 0 from rfl, start_eq]
  unfold Inv
  iintro ⟨⟨⟨%cs, HS0⟩, ⟨%ni, HS1⟩, ⟨%mc, HS2⟩, ⟨%sc, HS3⟩⟩, Hg⟩
  iexists cs, ni, mc, sc
  isplitr; · ipureintro; exact fun h => absurd h (lt_irrefl 0)
  isplitl [HS0]; · iexact HS0
  isplitl [HS1]; · iexact HS1
  isplitl [HS2]; · iexact HS2
  isplitl [HS3]; · iexact HS3
  iexact Hg

theorem inv_end (c : Dev nD) : (dats m 0 c).Φ (Fin.last cfg0.N) ⊢ Pipeline.ΦA spec0 c := by
  rw [show (dats m 0 c).Φ (Fin.last cfg0.N) = Inv m c (Fin.last cfg0.N).val from rfl, start_eq]
  unfold Inv
  iintro ⟨%cs, %ni, %mc, %sc, -, HS0, HS1, HS2, HS3, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run -/

set_option backward.isDefEq.respectTransparency.types false in
set_option maxHeartbeats 800000 in
/-- Every execution terminates; at its end the pipeline's arrays are as the proof data say, every other buffer is as
    the host line after the launch leaves it, and every semaphore is at zero. -/
theorem run_full : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_arr m) (hin := inv_start m) (hout := inv_end m)

/-- The argument arrays end as they began, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_arr m) ((θ_run defs _ _).mono (fun _ h => h.1) (run_full m ρ)))
    ((θ_run defs _ _).mono (fun _ h => h.2) (run_full m ρ))

end Cert.KernelIdeal.Body
end
-- ==== Proof.Loss.lean ====
/-
  The loss as mathematics over the extended reals: the class counts, sums and means, the cosine gap of a row from a
  center in the two forms the programs use, the loss, and the identities that join the forms. Nothing here mentions a
  program.
-/
module

public import Idealize.ShloMosaic.PureOps
public import Idealize.ShloMosaic.Lib.Pointwise

@[expose] public section

set_option maxRecDepth 16384

noncomputable section

namespace Cert.Loss

open Idealize.ShloMosaic

/-! ## The quantities -/

/-- The number of rows, as both programs print it. -/
abbrev rows : EReal := Ideal.ofBits .f32 0x46800000#32

/-- Inner product. -/
def dot (u v : Fin 128 → EReal) : EReal := ∑ d, u d * v d
/-- Euclidean norm. -/
def norm (u : Fin 128 → EReal) : EReal := Ideal.sqrt (dot u u)
/-- A divisor made safe: one in place of what is not positive. -/
def orOne (a : EReal) : EReal := if 0 < a then a else 1
/-- The cosine gap of a row from a center, by a division. -/
def gap (u v : Fin 128 → EReal) : EReal := 1 - Ideal.div (dot u v) (norm u) * norm v
/-- The cosine gap of a row from a center, by a reciprocal square root. -/
def gapR (u v : Fin 128 → EReal) : EReal := 1 - dot u v * Ideal.rsqrt (dot u u) * norm v

/-- One where the label word names class `k`, else zero. -/
def hot (w : BitVec 32) (k : ℕ) : EReal := if w = BitVec.ofNat 32 k then 1 else 0

variable (x : Fin 16384 → Fin 128 → EReal) (l : Fin 16384 → BitVec 32)

/-- The number of rows of a class. -/
def count (k : ℕ) : EReal := ∑ i, hot (l i) k
/-- The sum of a class's rows. -/
def total (k : ℕ) (d : Fin 128) : EReal := ∑ i, hot (l i) k * x i d
/-- The mean of a class's rows. -/
def mean (k : ℕ) (d : Fin 128) : EReal := Ideal.div (total x l k d) (orOne (count l k))
/-- The mean of all rows. -/
def avg (d : Fin 128) : EReal := Ideal.div (∑ i, x i d) rows
/-- The cosine gap of a class's mean from the mean of all rows. -/
def classGap (k : ℕ) : EReal := 1 - Ideal.div (dot (mean x l k) (avg x)) (orOne (norm (mean x l k))) * norm (avg x)
/-- A class's share of the between-class sum. -/
def share (k : ℕ) : EReal := Ideal.div (count l k) rows * classGap x l k * classGap x l k

/-- The loss, over `K` classes, of rows with labels `k` and the centers `z`. -/
def loss (z : Fin 100 → Fin 128 → EReal) (k : Fin 16384 → Fin 100) : EReal :=
  Ideal.div (Ideal.div (∑ i, gap (x i) (mean x l (k i).val) * gap (x i) (mean x l (k i).val)) rows) (∑ c : Fin 100, share x l c.val)
    + Ideal.div (∑ i, gap (x i) (z (k i)) * gap (x i) (z (k i))) rows

/-! ## Words that name classes -/

theorem hot_ofNat {a b : ℕ} (ha : a < 2 ^ 32) (hb : b < 2 ^ 32) : hot (BitVec.ofNat 32 a) b = if a = b then 1 else 0 := by
  unfold hot
  refine if_congr ⟨fun h => ?_, fun h => by rw [h]⟩ rfl rfl
  have := congrArg BitVec.toNat h
  rwa [BitVec.toNat_ofNat, BitVec.toNat_ofNat, Nat.mod_eq_of_lt ha, Nat.mod_eq_of_lt hb] at this

/-- A one-hot row picks the entry of its class. -/
theorem sum_hot {n : ℕ} (hn : n < 2 ^ 32) {w : BitVec 32} {k : Fin n} (hw : w = BitVec.ofNat 32 k.val) (f : Fin n → EReal) :
    ∑ c : Fin n, hot w c.val * f c = f k := by
  rw [Finset.sum_eq_single k (fun c _ hc => ?_) (fun h => absurd (Finset.mem_univ k) h), hw, hot_ofNat (k.isLt.trans hn) (k.isLt.trans hn), if_pos rfl, one_mul]
  rw [hw, hot_ofNat (k.isLt.trans hn) (c.isLt.trans hn), if_neg fun h => hc (Fin.ext h.symm), zero_mul]

variable {l} {k : Fin 16384 → Fin 100} (hk : ∀ i, l i = BitVec.ofNat 32 (k i).val)

include hk

/-- Over all classes, the one-hot sums of any summand add up to its sum over the rows. -/
theorem sum_classes (f : Fin 16384 → EReal) : ∑ c : Fin 100, ∑ i, hot (l i) c.val * f i = ∑ i, f i := by
  rw [Finset.sum_comm]
  exact Finset.sum_congr rfl fun i _ => sum_hot (by decide) (hk i) fun _ => f i

/-- No row is of a padded class. -/
theorem hot_padded (i : Fin 16384) {c : ℕ} (hc : 100 ≤ c) (hc' : c < 128) : hot (l i) c = 0 := by
  have := (k i).isLt
  rw [hk, hot_ofNat (by omega) (by omega), if_neg (by omega)]

omit hk in
/-- A sum over the padded classes is a sum over the classes, if the padded ones add nothing. -/
theorem sum_padded (f : ℕ → EReal) (hf : ∀ c, 100 ≤ c → c < 128 → f c = 0) : ∑ c : Fin 128, f c.val = ∑ c : Fin 100, f c.val := by
  rw [show (∑ c : Fin 128, f c.val) = ∑ c : Fin (100 + 28), f c.val from rfl, Fin.sum_univ_add]
  refine (congrArg₂ (· + ·) rfl (Finset.sum_eq_zero fun c _ => hf _ ?_ ?_)).trans (add_zero _)
  · exact Nat.le_add_right _ _
  · exact Nat.add_lt_add_left c.isLt 100

theorem count_padded {c : ℕ} (hc : 100 ≤ c) (hc' : c < 128) : count l c = 0 :=
  Finset.sum_eq_zero fun i _ => hot_padded hk i hc hc'

theorem total_padded (d : Fin 128) {c : ℕ} (hc : 100 ≤ c) (hc' : c < 128) : total x l c d = 0 :=
  Finset.sum_eq_zero fun i _ => by rw [hot_padded hk i hc hc', zero_mul]

/-- The class sums add up to the sum of all rows. -/
theorem sum_total (d : Fin 128) : ∑ c : Fin 128, total x l c.val d = ∑ i, x i d :=
  (sum_padded (fun c => total x l c d) fun _ h h' => total_padded x hk d h h').trans (sum_classes hk fun i => x i d)

omit hk

/-! ## Divisions -/

theorem rows_eq : rows = ((16384 : ℝ) : EReal) := by
  simp [rows, Ideal.ofBits, Ideal.ieee, -EReal.coe_mul]; norm_num

/-- The words of the two infinities. -/
theorem inf_word : Ideal.ofBits .f32 0x7F800000#32 = ⊤ := by simp [Ideal.ofBits, Ideal.ieee]
theorem neg_inf_word : Ideal.ofBits .f32 0xFF800000#32 = ⊥ := by simp [Ideal.ofBits, Ideal.ieee]

/-- Division by the number of rows is a product. -/
theorem div_rows (a : EReal) : Ideal.div a rows = a * ((1 / 16384 : ℝ) : EReal) := by
  rw [rows_eq, Ideal.div_coe (by norm_num)]

include hk in
/-- The padded classes add nothing to the between-class sum. -/
theorem sum_share : ∑ c : Fin 128, share x l c.val = ∑ c : Fin 100, share x l c.val :=
  sum_padded (fun c => share x l c) fun c h h' => by
    unfold share
    rw [count_padded hk h h', div_rows, zero_mul, zero_mul, zero_mul]

/-- The two forms of the gap agree on a row of positive finite norm. -/
theorem gapR_eq (u v : Fin 128 → EReal) (h0 : 0 < dot u u) (h1 : dot u u < ⊤) : gapR u v = gap u v := by
  unfold gapR gap norm
  generalize dot u u = q at *
  induction q with
  | bot => exact absurd h0 (by simp)
  | top => exact absurd h1 (lt_irrefl _)
  | coe r =>
    have hr : 0 < r := by exact_mod_cast h0
    rw [Ideal.rsqrt_coe, if_neg hr.le.not_gt, if_neg hr.ne', Ideal.sqrt_coe, if_neg hr.le.not_gt,
      Ideal.div_coe (Real.sqrt_pos.2 hr).ne', one_div]

/-! ## The weighted sum over the classes -/

/-- A one-hot entry is a real number, zero or one. -/
theorem hot_cases (w : BitVec 32) (c : ℕ) : hot w c = 0 ∨ hot w c = 1 := by
  unfold hot; split
  · exact .inr rfl
  · exact .inl rfl

theorem hot_nonneg (w : BitVec 32) (c : ℕ) : 0 ≤ hot w c := by
  rcases hot_cases w c with h | h <;> rw [h]
  exact zero_le_one

/-- A sum of real numbers is a real number. -/
theorem exists_real_sum {ι : Type} (s : Finset ι) (f : ι → EReal) (hf : ∀ i, ∃ r : ℝ, f i = (r : EReal)) :
    ∃ r : ℝ, ∑ i ∈ s, f i = (r : EReal) := by
  classical
  induction s using Finset.induction_on with
  | empty => exact ⟨0, rfl⟩
  | insert i s hi ih =>
    obtain ⟨a, ha⟩ := ih
    obtain ⟨b, hb⟩ := hf i
    exact ⟨b + a, by rw [Finset.sum_insert hi, ha, hb, EReal.coe_add]⟩

theorem count_real (c : ℕ) : ∃ r : ℝ, count l c = (r : EReal) :=
  exists_real_sum _ _ fun i => by
    rcases hot_cases (l i) c with h | h <;> rw [h]
    · exact ⟨0, rfl⟩
    · exact ⟨1, rfl⟩

theorem count_nonneg (c : ℕ) : 0 ≤ count l c := Finset.sum_nonneg fun i _ => hot_nonneg _ _

/-- A class without rows has no one-hot entry. -/
theorem hot_of_count (c : ℕ) (h : count l c = 0) (i : Fin 16384) : hot (l i) c = 0 :=
  (Finset.sum_eq_zero_iff_of_nonneg fun i _ => hot_nonneg (l i) c).1 h i (Finset.mem_univ i)

/-- The safe count is a nonzero real number. -/
theorem orOne_count (c : ℕ) : ∃ r : ℝ, r ≠ 0 ∧ orOne (count l c) = (r : EReal) := by
  obtain ⟨r, hr⟩ := count_real (l := l) c
  unfold orOne
  split
  · next h =>
    refine ⟨r, fun h0 => ?_, hr⟩
    rw [hr, h0] at h; exact lt_irrefl _ h
  · exact ⟨1, one_ne_zero, rfl⟩

/-- A class's weighted sum is its sum over the number of rows: its count cancels. -/
theorem weigh (f : Fin 16384 → EReal) (c : ℕ) :
    Ideal.div 1 (orOne (count l c)) * (∑ i, hot (l i) c * f i) * Ideal.div (count l c) rows = (∑ i, hot (l i) c * f i) * ((1 / 16384 : ℝ) : EReal) := by
  by_cases h : count l c = 0
  · rw [Finset.sum_eq_zero fun i _ => by rw [hot_of_count c h i, zero_mul], mul_zero, zero_mul, zero_mul]
  · obtain ⟨r, hr⟩ := count_real (l := l) c
    have hr0 : r ≠ 0 := fun h0 => h (by rw [hr, h0]; rfl)
    have e : orOne (count l c) = (r : EReal) := by
      unfold orOne
      rw [if_pos (lt_of_le_of_ne (count_nonneg c) (Ne.symm h)), hr]
    rw [e, div_rows, Ideal.div_coe hr0, one_mul, hr, mul_comm ((1 / r : ℝ) : EReal), mul_assoc, ← mul_assoc ((1 / r : ℝ) : EReal), ← EReal.coe_mul,
      one_div_mul_cancel hr0, EReal.coe_one, one_mul]

/-- A sum of nonnegative numbers times a nonnegative number. -/
theorem sum_mul_of_nonneg {ι : Type} (s : Finset ι) (f : ι → EReal) (hf : ∀ i, 0 ≤ f i) (a : EReal) :
    ∑ i ∈ s, f i * a = (∑ i ∈ s, f i) * a := by
  classical
  induction s using Finset.induction_on with
  | empty => rw [Finset.sum_empty, Finset.sum_empty, zero_mul]
  | insert i s hi ih => rw [Finset.sum_insert hi, Finset.sum_insert hi, ih, EReal.right_distrib_of_nonneg (hf i) (Finset.sum_nonneg fun i _ => hf i)]

include hk in
/-- The weighted class sums of nonnegative summands add up to the mean of the summands. -/
theorem sum_weigh (f : Fin 16384 → EReal) (hf : ∀ i, 0 ≤ f i) :
    ∑ c : Fin 100, Ideal.div 1 (orOne (count l c.val)) * (∑ i, hot (l i) c.val * f i) * Ideal.div (count l c.val) rows = Ideal.div (∑ i, f i) rows := by
  have hs : ∀ c : Fin 100, 0 ≤ ∑ i, hot (l i) c.val * f i := fun c => Finset.sum_nonneg fun i _ => mul_nonneg (hot_nonneg _ _) (hf i)
  refine (Finset.sum_congr rfl fun (c : Fin 100) _ => weigh (l := l) f c.val).trans ?_
  rw [sum_mul_of_nonneg Finset.univ (fun c : Fin 100 => ∑ i, hot (l i) c.val * f i) hs, sum_classes hk, div_rows]

/-- A square is not negative. -/
theorem square_nonneg (a : EReal) : 0 ≤ a * a := by
  induction a with
  | bot => simp
  | top => simp
  | coe r => exact_mod_cast mul_self_nonneg r

/-! ## Rows of finite norm -/

/-- An entry of a row of finite norm is a real number. -/
theorem real_of_dot (u : Fin 128 → EReal) (h : dot u u < ⊤) (d : Fin 128) : ∃ r : ℝ, u d = (r : EReal) := by
  have hle : u d * u d ≤ dot u u := by
    unfold dot
    exact Finset.single_le_sum (f := fun d => u d * u d) (fun d _ => square_nonneg (u d)) (Finset.mem_univ d)
  have hd := lt_of_le_of_lt hle h
  generalize u d = a at hd
  induction a with
  | bot => simp at hd
  | top => simp at hd
  | coe r => exact ⟨r, rfl⟩

/-- The class means of rows of finite norm are real numbers. -/
theorem mean_real (h : ∀ i, dot (x i) (x i) < ⊤) (c : ℕ) (d : Fin 128) : ∃ r : ℝ, mean x l c d = (r : EReal) := by
  obtain ⟨a, ha⟩ : ∃ a : ℝ, total x l c d = (a : EReal) := exists_real_sum _ _ fun i => by
    obtain ⟨b, hb⟩ := real_of_dot (x i) (h i) d
    rcases hot_cases (l i) c with h | h <;> rw [h, hb]
    · exact ⟨0, zero_mul _⟩
    · exact ⟨b, one_mul _⟩
  obtain ⟨r, hr, e⟩ := orOne_count (l := l) c
  exact ⟨a * (1 / r), by rw [mean, ha, e, Ideal.div_coe hr, ← EReal.coe_mul]⟩

end Cert.Loss
end
-- ==== Proof.KernelValue.lean ====
/-
  What the idealized kernel's blocks, running sums and result are, as sums over the argument arrays' entries.
-/
module

public import proofs.«01_k».proof.Proof.LaunchIdeal
public import proofs.«01_k».proof.Proof.Loss
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.Loss

variable (m : (ℓ : Loc nD τ sig) → Buf (Elt Ideal) ℓ) (c : Dev nD)

/-! ## The blocks -/

/-- The feature rows. -/
def X (i : Fin 16384) (d : Fin 128) : EReal := (show FVec Ideal S16384x128 .f32 from m ((c : Thread nD τ).loc main_arg0)) (ix2 i d)
/-- The labels. -/
def L (i : Fin 16384) : BitVec 32 := (show IVec S16384 32 from m ((c : Thread nD τ).loc main_arg1)) (ix1 i)
/-- The centers. -/
def Z (k : Fin 100) (d : Fin 128) : EReal := (show FVec Ideal S100x128 .f32 from m ((c : Thread nD τ).loc main_arg2)) (ix2 k d)
/-- The centers with the padded classes' rows of zeros. -/
def Zp (k : Fin 128) (d : Fin 128) : EReal := if h : k.val < 100 then Z m c ⟨k.val, h⟩ d else 0

/-- The windows' block indices at every point. -/
theorem idx_val : ∀ t : Fin cfg0.N, win0_0.index t = ![t.val % 8, 0, 0] ∧ win0_1.index t = ![t.val % 8, 0] ∧ win0_2.index t = ![0, 0] :=
  (by decide +kernel : ∀ t : Fin grid0.N, _)

/-- Row `r` of the block a point stages, in the whole array. -/
def row (n : ℕ) (r : Fin 2048) : Fin 16384 := ⟨n % 8 * 2048 + r.val, by have := r.isLt; omega⟩

/-- The labels as the region finds them: the argument's words in eight rows. -/
theorem V_v0 : V m c main_v0 = shapeCast S8x1x2048 (m ((c : Thread nD τ).loc main_arg1)) shapeCasts_S16384_S8x1x2048 := by
  show StableHlo.after [hostOps0, hostOps0_1].flatten (fun b => m (c, b)) (Proc.devRef .tc main_v0) = _
  simp only [hostOps0, hostOps0_1, List.flatten_cons, List.flatten_nil, List.append_nil, List.cons_append, List.nil_append]
  after_results
  rfl

/-- The centers as the region finds them: the argument's rows, then rows of zeros. -/
theorem V_v1 : V m c main_v1 = pad S128x128 ![0, 0] ![28, 0] ![0, 0] (show FVec Ideal S100x128 .f32 from m ((c : Thread nD τ).loc main_arg2)) (sitofp .f32 (constantI S_ 32 0#32)) pads_S100x128_S128x128_0280_000 h_S_ := by
  show StableHlo.after [hostOps0, hostOps0_1].flatten (fun b => m (c, b)) (Proc.devRef .tc main_v1) = _
  simp only [hostOps0, hostOps0_1, List.flatten_cons, List.flatten_nil, List.append_nil, List.cons_append, List.nil_append]
  after_results
  rfl

theorem fblk_at (t : Fin cfg0.N) (r : Fin 2048) (d : Fin 128) : fblk m c t.val (ix2 r d) = X m c (row t.val r) d := by
  rw [fblk_eq]
  unfold X row
  blk_simp [iblk]
  rw [V_main_arg0]
  blk_ext [idx_val t]

theorem lblk_at (t : Fin cfg0.N) (r : Fin 2048) : lblk m c t.val (ix3 0 0 r) = L m c (row t.val r) := by
  rw [lblk_eq]
  unfold L row
  blk_simp [iblk]
  rw [V_v0]
  pointwise
  blk_ext [idx_val t]

/-- The padding value: the integer zero as a real number. -/
theorem word_zero_real : FloatOps.sitofp (F := Ideal) FTy.f32 (0#32) = (0 : EReal) := by
  show (((0#32).toInt : ℝ) : EReal) = 0
  simp

theorem word_one_real : FloatOps.sitofp (F := Ideal) FTy.f32 (1#32) = (1 : EReal) := by
  show (((1#32).toInt : ℝ) : EReal) = 1
  simp

theorem cblk_at (t : Fin cfg0.N) (k d : Fin 128) : cblk m c t.val (ix2 k d) = Zp m c k d := by
  have e : cblk m c t.val (ix2 k d) = V m c main_v1 (ix2 k d) := by
    rw [cblk_eq]
    blk_simp [iblk]
    blk_ext [idx_val t]
  rw [e, V_v1]
  unfold Zp Z
  pointwise
  by_cases h : k.val < 100
  · rw [dif_pos h, dif_pos h]
  · rw [dif_neg h, dif_neg h]
    exact word_zero_real

/-! ## One-hot rows and re-blocked sums -/

theorem pay1_at (lab : Vec Ideal S1x1x2048 .i32) (r : Fin 2048) (k : Fin 128) :
    k0_pay1 (F := Ideal) lab (ix2 r k) = hot (lab (ix3 0 0 r)) k.val := by
  pointwise [k0_pay1]
  unfold hot
  by_cases h : lab (ix3 0 0 r) = BitVec.ofNat 32 k.val
  · rw [if_pos h, h]
    simp [IntOp.cmpi]
    exact word_one_real
  · rw [if_neg h]
    have e : (lab (ix3 0 0 r) == BitVec.ofNat 32 k.val) = false := beq_eq_false_iff_ne.2 h
    simp only [IntOp.cmpi, e]
    exact word_zero_real

/-- A sum over the rows is the sum over the eight blocks of the sums over each block's rows. -/
theorem sum_rows (f : Fin 16384 → EReal) : ∑ b ∈ Finset.range 8, ∑ r : Fin 2048, f (row b r) = ∑ i, f i := by
  rw [Finset.sum_range fun b => ∑ r : Fin 2048, f (row b r), Fin.sum_univ_tiles 8 2048 rfl f]
  refine Finset.sum_congr rfl fun b _ => Finset.sum_congr rfl fun r _ => congrArg f (Fin.ext ?_)
  show b.val % 8 * 2048 + r.val = b.val * 2048 + r.val
  rw [Nat.mod_eq_of_lt b.isLt]

/-- The second sweep stages the blocks of the first again. -/
theorem row_again (b : ℕ) (r : Fin 2048) : row (8 + b) r = row b r := by
  unfold row
  refine Fin.ext ?_
  show (8 + b) % 8 * 2048 + r.val = b % 8 * 2048 + r.val
  rw [Nat.add_mod_left]

/-! ## The first sweep -/

theorem csAt_at (n : ℕ) (hn : n ≤ 8) (k d : Fin 128) :
    csAt m c n (ix2 k d) = ∑ b ∈ Finset.range n, ∑ r : Fin 2048, hot (L m c (row b r)) k.val * X m c (row b r) d := by
  induction n with
  | zero =>
    unfold csAt
    pointwise [k0_pay2]
    rw [Finset.sum_range_zero]
  | succ n ih =>
    have hN : n < cfg0.N := by show n < 16; omega
    rw [Finset.sum_range_succ, ← ih (by omega)]
    show k0_pay4 (fblk m c n) (lblk m c n) (csAt m c n) (ix2 k d) = _
    generalize csAt m c n = cs
    pointwise [k0_pay4]
    refine congrArg _ (Finset.sum_congr rfl fun r _ => ?_)
    rw [pay1_at, lblk_at m c ⟨n, hN⟩, fblk_at m c ⟨n, hN⟩]

theorem niAt_at (n : ℕ) (hn : n ≤ 8) (k : Fin 128) :
    niAt m c n (ix2 0 k) = ∑ b ∈ Finset.range n, ∑ r : Fin 2048, hot (L m c (row b r)) k.val := by
  induction n with
  | zero =>
    unfold niAt
    pointwise [k0_pay3]
    rw [Finset.sum_range_zero]
  | succ n ih =>
    have hN : n < cfg0.N := by show n < 16; omega
    rw [Finset.sum_range_succ, ← ih (by omega)]
    show k0_pay5 (lblk m c n) (niAt m c n) (ix2 0 k) = _
    generalize niAt m c n = ni
    pointwise [k0_pay5]
    refine congrArg _ (Finset.sum_congr rfl fun r _ => ?_)
    rw [pay1_at, lblk_at m c ⟨n, hN⟩]

/-- The finished class sums. -/
theorem cs_at (k d : Fin 128) : csAt m c 8 (ix2 k d) = total (X m c) (L m c) k.val d :=
  (csAt_at m c 8 le_rfl k d).trans (sum_rows fun i => hot (L m c i) k.val * X m c i d)

/-- The finished class counts. -/
theorem ni_at (k : Fin 128) : niAt m c 8 (ix2 0 k) = count (L m c) k.val :=
  (niAt_at m c 8 le_rfl k).trans (sum_rows fun i => hot (L m c i) k.val)

/-! ## The class means and the between-class sum -/

theorem mcv_at (k d : Fin 128) : mcv m c (ix2 k d) = mean (X m c) (L m c) k.val d := by
  have h : mcv m c (ix2 k d) = Ideal.div (csAt m c 8 (ix2 k d)) (if 0 < niAt m c 8 (ix2 0 k) then niAt m c 8 (ix2 0 k) else 1) := by
    unfold mcv
    generalize csAt m c 8 = cs
    generalize niAt m c 8 = ni
    pointwise [k0_pay10, k0_pay9, k0_pay8]
  rw [h, cs_at, ni_at]
  rfl

variable {m c} {k : Fin 16384 → Fin 100} (hk : ∀ i, L m c i = BitVec.ofNat 32 (k i).val)

include hk in
theorem s2v_eq : s2v m c = ∑ a : Fin 100, share (X m c) (L m c) a.val := by
  rw [← sum_share (X m c) hk]
  have hcs := cs_at m c
  have hni := ni_at m c
  unfold s2v
  generalize csAt m c 8 = cs at *
  generalize niAt m c 8 = ni at *
  pointwise [k0_pay6, k0_pay11, k0_pay10, k0_pay9, k0_pay8]
  simp only [hcs, hni, sum_total (X m c) hk]
  rfl

/-! ## The second sweep -/

/-- The one-hot product of a block's row with a table is the table's row of its class. -/
theorem pick {w : BitVec 32} {a : Fin 100} (hw : w = BitVec.ofNat 32 a.val) (f : Fin 128 → EReal) :
    ∑ b : Fin 128, hot w b.val * f b = f ⟨a.val, a.isLt.trans (by decide)⟩ :=
  sum_hot (n := 128) (k := ⟨a.val, a.isLt.trans (by decide)⟩) (by decide) hw f

/-- What one block adds to a running sum of squared gaps. -/
theorem gaps_at (f oh : FVec Ideal S2048x128 .f32) (g : FVec Ideal S128x128 .f32) (s : Ideal .f32) :
    k0_pay13 (F := Ideal) f oh g s = s + ∑ r : Fin 2048,
      gapR (fun d => f (ix2 r d)) (fun d => ∑ b : Fin 128, oh (ix2 r b) * g (ix2 b d)) * gapR (fun d => f (ix2 r d)) (fun d => ∑ b : Fin 128, oh (ix2 r b) * g (ix2 b d)) := by
  pointwise [k0_pay13, k0_pay12]
  rfl

/-- The same sum, of the gaps from the learned centers. -/
theorem gaps_at' (f oh : FVec Ideal S2048x128 .f32) (g : FVec Ideal S128x128 .f32) (s : Ideal .f32) :
    k0_pay14 (F := Ideal) f oh g s = s + ∑ r : Fin 2048,
      gapR (fun d => f (ix2 r d)) (fun d => ∑ b : Fin 128, oh (ix2 r b) * g (ix2 b d)) * gapR (fun d => f (ix2 r d)) (fun d => ∑ b : Fin 128, oh (ix2 r b) * g (ix2 b d)) := by
  pointwise [k0_pay14, k0_pay12]
  rfl

variable (m c) in
/-- The padded centers at a class are the class's learned center. -/
theorem Zp_class (a : Fin 100) (d : Fin 128) : Zp m c ⟨a.val, a.isLt.trans (by decide)⟩ d = Z m c a d := by
  unfold Zp
  rw [dif_pos a.isLt]

/-- The squared gap of row `i` from the center that `v` names for its class. -/
def sqGap (x : Fin 16384 → Fin 128 → EReal) (k : Fin 16384 → Fin 100) (v : Fin 100 → Fin 128 → EReal) (i : Fin 16384) : EReal :=
  gapR (x i) (v (k i)) * gapR (x i) (v (k i))

include hk in
theorem s0At_at (n : ℕ) (hn : n ≤ 8) :
    s0At m c n = ∑ b ∈ Finset.range n, ∑ r : Fin 2048, sqGap (X m c) k (fun a => mean (X m c) (L m c) a.val) (row b r) := by
  induction n with
  | zero => exact Idealize.ShloMosaic.Ideal.ofBits_zero_f32.trans (Finset.sum_range_zero _).symm
  | succ n ih =>
    have hN : 8 + n < cfg0.N := by show 8 + n < 16; omega
    rw [Finset.sum_range_succ, ← ih (by omega)]
    show k0_pay13 (fblk m c (8 + n)) (k0_pay1 (lblk m c (8 + n))) (mcv m c) (s0At m c n) = _
    rw [gaps_at]
    refine congrArg _ (Finset.sum_congr rfl fun r _ => ?_)
    have hf : (fun d => fblk m c (8 + n) (ix2 r d)) = X m c (row n r) :=
      funext fun d => (fblk_at m c ⟨8 + n, hN⟩ r d).trans (by rw [row_again])
    have hp : (fun d => ∑ b : Fin 128, k0_pay1 (F := Ideal) (lblk m c (8 + n)) (ix2 r b) * mcv m c (ix2 b d)) = mean (X m c) (L m c) (k (row n r)).val := by
      funext d
      simp only [pay1_at, mcv_at]
      exact pick ((lblk_at m c ⟨8 + n, hN⟩ r).trans (by rw [row_again]; exact hk _)) fun b => mean (X m c) (L m c) b.val d
    rw [hf, hp]
    rfl

include hk in
theorem s1At_at (n : ℕ) (hn : n ≤ 8) :
    s1At m c n = ∑ b ∈ Finset.range n, ∑ r : Fin 2048, sqGap (X m c) k (Z m c) (row b r) := by
  induction n with
  | zero => exact Idealize.ShloMosaic.Ideal.ofBits_zero_f32.trans (Finset.sum_range_zero _).symm
  | succ n ih =>
    have hN : 8 + n < cfg0.N := by show 8 + n < 16; omega
    rw [Finset.sum_range_succ, ← ih (by omega)]
    show k0_pay14 (fblk m c (8 + n)) (k0_pay1 (lblk m c (8 + n))) (cblk m c (8 + n)) (s1At m c n) = _
    rw [gaps_at']
    refine congrArg _ (Finset.sum_congr rfl fun r _ => ?_)
    have hf : (fun d => fblk m c (8 + n) (ix2 r d)) = X m c (row n r) :=
      funext fun d => (fblk_at m c ⟨8 + n, hN⟩ r d).trans (by rw [row_again])
    have hp : (fun d => ∑ b : Fin 128, k0_pay1 (F := Ideal) (lblk m c (8 + n)) (ix2 r b) * cblk m c (8 + n) (ix2 b d)) = Z m c (k (row n r)) := by
      funext d
      have hz := fun b => cblk_at m c ⟨8 + n, hN⟩ b d
      simp only [pay1_at, hz]
      exact (pick ((lblk_at m c ⟨8 + n, hN⟩ r).trans (by rw [row_again]; exact hk _)) fun b => Zp m c b d).trans (Zp_class m c _ d)
    rw [hf, hp]
    rfl

/-! ## The result -/

include hk in
/-- The array the last grid point stores holds the loss. -/
theorem outv_eq (h : ∀ i, 0 < dot (X m c i) (X m c i) ∧ dot (X m c i) (X m c i) < ⊤) (a b : Fin 1) :
    outv m c (ix2 a b) = loss (X m c) (L m c) (Z m c) k := by
  have h0 := (s0At_at hk 8 le_rfl).trans (sum_rows _)
  have h1 := (s1At_at hk 8 le_rfl).trans (sum_rows _)
  have h2 := s2v_eq hk
  unfold outv
  generalize s0At m c 8 = s0 at *
  generalize s1At m c 8 = s1 at *
  generalize s2v m c = s2 at *
  pointwise [k0_pay7]
  rw [h0, h1, h2]
  unfold loss sqGap
  simp only [fun i v => gapR_eq (X m c i) v (h i).1 (h i).2]

/-- The result array after the last grid point. -/
theorem out_arr : (dats m 0 c).arrAt 3 cfg0.N = outv m c :=
  (dats m 0 c).arrAt_eq_of_after_last 3 t0_15 (by decide +kernel) _ fun j => by
    rw [dats_after3]
    blk_simp
    rfl

/-- The scalar the host reads from it. -/
theorem W_main_v3 : Pipeline.afterTail₀ cfgs (dats m) 0 (V0 m) [hostOps1] c main_v3 = fun _ => outv m c (ix2 0 0) := by
  unfold Pipeline.afterTail₀
  simp only [hostOps1, List.flatten_cons, List.flatten_nil, List.append_nil]
  after_results
  have h2 : Pipeline.withArrays (cfgs 0).spec c (V0 m c) (fun w => (dats m 0 c).arrAt w (cfgs 0).N) (Proc.tc.devRef main_v2) = outv m c :=
    (Pipeline.withArrays_arr (cfgs 0).spec (by decide : Function.Injective (Pipeline.arrRef spec0)) c (V0 m c) _ 3).trans out_arr
  rw [h2]
  funext i
  show outv m c _ = _
  refine congrArg (outv m c) (funext fun a => Fin.ext ?_)
  match a with
  | ⟨0, _⟩ => exact Nat.lt_one_iff.1 (Fin.isLt _)
  | ⟨1, _⟩ => exact Nat.lt_one_iff.1 (Fin.isLt _)

/-- The kernel's run: its result is what the last grid point leaves, and the arguments end as they began. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = (fun _ => outv m c (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).2 main_v3 (Pipeline.mem_restRefs_of main_v3 (by decide) (by decide))).trans W_main_v3, h.2.1 c⟩)
    (θ_run_and (run_full m ρ) (frame m ρ))

end Cert.KernelIdeal.Body
end
-- ==== Proof.Scatter.lean ====
/-
  The reference's scatters and gathers read at one element: where an update row lands, the sums and the count that
  the scatters leave, and the row a gather picks.
-/
module

public import proofs.«01_k».proof.Proof.Gen.ReferenceIdeal
public import proofs.«01_k».proof.Proof.Loss
public import Idealize.ShloMosaic.Lib.Pointwise
public import Idealize.ShloMosaic.Lib.Routing.OpsPair
public import Idealize.ShloMosaic.Lib.Routing.Ops

@[expose] public section

set_option maxRecDepth 16384

noncomputable section

namespace Cert.ReferenceIdeal.Value

open Cert.ReferenceIdeal Cert.ReferenceIdeal.Gen Cert.Loss Idealize.ShloMosaic

/-! ## Label words -/

/-- A class's word, read signed, is the class. -/
theorem word_toInt : ∀ a : Fin 100, (BitVec.ofNat 32 a.val).toInt = (a.val : Int) := by decide +kernel
/-- The larger of zero and a class's word is the word. -/
theorem word_max : ∀ a : Fin 100, IntOp.maxsi 0#32 (BitVec.ofNat 32 a.val) = BitVec.ofNat 32 a.val := by decide +kernel
/-- A class's word is not negative. -/
theorem word_slt : ∀ a : Fin 100, IntOp.cmpi .slt (BitVec.ofNat 32 a.val) 0#32 = 0#1 := by decide +kernel

/-! ## Where an update lands -/

variable (idx : IVec S16384x1 32)

theorem lands1 (i : Fin 16384) (a : Fin 100) :
    scatter_S100_S16384x1_S16384_n_0_0_1.resultIdx? (ix1 i) idx = some (ix1 a) ↔ (idx (ix2 i 0)).toInt = (a.val : Int) := by
  have hs : scatter_S100_S16384x1_S16384_n_0_0_1.start (ix1 i) idx 0 = (idx (ix2 i 0)).toInt := by
    unfold ScatterDims.start
    rw [dif_pos (by decide)]
    refine congrArg (fun j => (idx j).toInt) (funext fun b => ?_)
    match b with
    | ⟨0, _⟩ => rfl
    | ⟨1, _⟩ => rfl
  have hw : scatter_S100_S16384x1_S16384_n_0_0_1.window (ix1 i) 0 = 0 := rfl
  rw [Routing.resultIdx?_eq_some]
  constructor
  · intro h
    have := h 0
    rwa [hs, hw, Nat.cast_zero, add_zero] at this
  · intro h b
    obtain rfl : b = 0 := Subsingleton.elim _ _
    rw [hs, hw, Nat.cast_zero, add_zero]
    exact h

theorem lands2 (i : Fin 16384) (e : Fin 128) (a : Fin 100) (d : Fin 128) :
    scatter_S100x128_S16384x1_S16384x128_1_0_0_1.resultIdx? (ix2 i e) idx = some (ix2 a d) ↔ (idx (ix2 i 0)).toInt = (a.val : Int) ∧ e = d := by
  have hs : scatter_S100x128_S16384x1_S16384x128_1_0_0_1.start (ix2 i e) idx 0 = (idx (ix2 i 0)).toInt := by
    unfold ScatterDims.start
    rw [dif_pos (by decide)]
    refine congrArg (fun j => (idx j).toInt) (funext fun b => ?_)
    match b with
    | ⟨0, _⟩ => rfl
    | ⟨1, _⟩ => rfl
  have hw : scatter_S100x128_S16384x1_S16384x128_1_0_0_1.window (ix2 i e) 0 = 0 := rfl
  have hs' : scatter_S100x128_S16384x1_S16384x128_1_0_0_1.start (ix2 i e) idx 1 = 0 := by
    unfold ScatterDims.start
    rw [dif_neg (by decide)]
  have hw' : scatter_S100x128_S16384x1_S16384x128_1_0_0_1.window (ix2 i e) 1 = e.val := rfl
  rw [Routing.resultIdx?_eq_some]
  constructor
  · intro h
    have h0 := h 0
    have h1 := h 1
    rw [hs, hw, Nat.cast_zero, add_zero] at h0
    rw [hs', hw', zero_add] at h1
    exact ⟨h0, Fin.ext (Int.ofNat.inj h1)⟩
  · rintro ⟨h, rfl⟩ b
    match b with
    | ⟨0, _⟩ =>
      show ScatterDims.start _ _ idx 0 + ((ScatterDims.window _ _ 0 : ℕ) : Int) = _
      rw [hs, hw, Nat.cast_zero, add_zero]
      exact h
    | ⟨1, _⟩ =>
      show ScatterDims.start _ _ idx 1 + ((ScatterDims.window _ _ 1 : ℕ) : Int) = _
      rw [hs', hw', zero_add]
      rfl

/-! ## What the scatters leave -/

variable {idx} {l : Fin 16384 → BitVec 32} {k : Fin 16384 → Fin 100} (hk : ∀ i, l i = BitVec.ofNat 32 (k i).val) (hi : ∀ i, idx (ix2 i 0) = l i)

include hk hi

/-- A row's word names class `a` exactly where its one-hot entry is one. -/
theorem names_iff (i : Fin 16384) (a : Fin 100) : (idx (ix2 i 0)).toInt = (a.val : Int) ↔ l i = BitVec.ofNat 32 a.val := by
  rw [hi, hk, word_toInt]
  constructor
  · intro h
    rw [Int.ofNat.inj h]
  · intro h
    have := congrArg BitVec.toInt h
    rwa [word_toInt, word_toInt] at this

theorem ite_hot (i : Fin 16384) (a : Fin 100) (y : EReal) [Decidable ((idx (ix2 i 0)).toInt = (a.val : Int))] :
    (if (idx (ix2 i 0)).toInt = (a.val : Int) then y else 0) = hot (l i) a.val * y := by
  unfold hot
  by_cases h : l i = BitVec.ofNat 32 a.val
  · rw [if_pos h, if_pos ((names_iff hk hi i a).2 h), one_mul]
  · rw [if_neg h, if_neg fun h' => h ((names_iff hk hi i a).1 h'), zero_mul]

/-- Scattering numbers by their rows' classes adds each number to its class's entry. -/
theorem scatter1_at (x : FVec Ideal S100 .f32) (u : FVec Ideal S16384 .f32) (a : Fin 100) :
    Host.scatterAdd (F := Ideal) scatter_S100_S16384x1_S16384_n_0_0_1 x idx u (ix1 a) = x (ix1 a) + ∑ i : Fin 16384, hot (l i) a.val * u (ix1 i) := by
  show x (ix1 a) + ∑ j ∈ Finset.univ.filter (fun j => scatter_S100_S16384x1_S16384_n_0_0_1.resultIdx? j idx = some (ix1 a)), u j = _
  refine congrArg _ ?_
  rw [Finset.sum_filter, sum_idx1]
  refine Finset.sum_congr rfl fun i _ => ?_
  rw [if_congr (lands1 idx i a) rfl rfl]
  exact ite_hot hk hi i a _

/-- Scattering rows by their classes adds each row to its class's row. -/
theorem scatter2_at (x : FVec Ideal S100x128 .f32) (u : FVec Ideal S16384x128 .f32) (a : Fin 100) (d : Fin 128) :
    Host.scatterAdd (F := Ideal) scatter_S100x128_S16384x1_S16384x128_1_0_0_1 x idx u (ix2 a d) = x (ix2 a d) + ∑ i : Fin 16384, hot (l i) a.val * u (ix2 i d) := by
  show x (ix2 a d) + ∑ j ∈ Finset.univ.filter (fun j => scatter_S100x128_S16384x1_S16384x128_1_0_0_1.resultIdx? j idx = some (ix2 a d)), u j = _
  refine congrArg _ ?_
  rw [Finset.sum_filter, sum_idx2]
  refine Finset.sum_congr rfl fun i _ => ?_
  rw [← ite_hot hk hi i a (u (ix2 i d))]
  rw [Finset.sum_eq_single d (fun e _ he => if_neg fun h => he ((lands2 idx i e a d).1 h).2) fun h => absurd (Finset.mem_univ d) h]
  exact if_congr ((lands2 idx i d a d).trans (and_iff_left rfl)) rfl rfl

omit hk hi in
/-- Adding one for every listed item that satisfies a predicate counts those items. -/
theorem foldl_ones {n : ℕ} (P : Fin n → Prop) [DecidablePred P] (s : List (Fin n)) (b : ℕ) :
    s.foldl (fun w i => if P i then IntOp.addi w 1#32 else w) (BitVec.ofNat 32 b) = BitVec.ofNat 32 (b + s.countP fun i => decide (P i)) := by
  induction s generalizing b with
  | nil => rfl
  | cons i s ih =>
    rw [List.foldl_cons]
    by_cases h : P i
    · rw [if_pos h, List.countP_cons_of_pos (p := fun i => decide (P i)) (decide_eq_true h), show IntOp.addi (BitVec.ofNat 32 b) 1#32 = BitVec.ofNat 32 (b + 1) from (BitVec.ofNat_add ..).symm, ih]
      congr 1
      omega
    · rw [if_neg h, List.countP_cons_of_neg (by simpa using h), ih]

omit hk hi in
/-- The count of the items that satisfy a predicate, as a sum of ones. -/
theorem countP_sum {n : ℕ} (P : Fin n → Prop) [DecidablePred P] :
    ((((List.finRange n).countP fun i => decide (P i)) : ℕ) : EReal) = ∑ i, if P i then 1 else 0 := by
  have h : ∀ s : List (Fin n), ((s.countP (fun i => decide (P i)) : ℕ) : EReal) = (s.map fun i => if P i then (1 : EReal) else 0).sum := by
    intro s
    induction s with
    | nil => simp
    | cons i s ih =>
      rw [List.map_cons, List.sum_cons, ← ih]
      by_cases h : P i
      · rw [if_pos h, List.countP_cons_of_pos (p := fun i => decide (P i)) (decide_eq_true h), add_comm, Nat.cast_add, Nat.cast_one]
      · rw [if_neg h, List.countP_cons_of_neg (by simpa using h), zero_add]
  rw [h, Fin.sum_univ_def]

omit hk hi in
/-- A small word, read signed as a real number. -/
theorem word_real {n : ℕ} (h : n < 2 ^ 31) : FloatOps.sitofp (F := Ideal) FTy.f32 (BitVec.ofNat 32 n) = (n : EReal) := by
  show (((BitVec.ofNat 32 n).toInt : ℝ) : EReal) = _
  rw [StableHlo.Predicate.toInt_ofNat_small n h]
  simp

/-- Scattering ones by their rows' classes counts each class's rows. -/
theorem scatterCount_at (x : IVec S100 32) (hx : ∀ a, x a = 0#32) (u : IVec S16384 32) (hu : ∀ i, u i = 1#32) (a : Fin 100) :
    FloatOps.sitofp (F := Ideal) FTy.f32 (Host.scatter scatter_S100_S16384x1_S16384_n_0_0_1 IntOp.addi x idx u (ix1 a)) = count l a.val := by
  rw [Routing.scatter_at, hx]
  simp only [hu]
  rw [foldl_ones (fun n => scatter_S100_S16384x1_S16384_n_0_0_1.resultIdx? (S16384.rowMajor.symm n) idx = some (ix1 a)) _ 0, zero_add, word_real, countP_sum]
  · rw [Equiv.sum_comp S16384.rowMajor.symm fun j => if scatter_S100_S16384x1_S16384_n_0_0_1.resultIdx? j idx = some (ix1 a) then (1 : EReal) else 0, sum_idx1]
    refine Finset.sum_congr rfl fun i _ => ?_
    rw [if_congr (lands1 idx i a) rfl rfl, ite_hot hk hi i a, mul_one]
  · refine lt_of_le_of_lt List.countP_le_length ?_
    rw [List.length_finRange]
    decide +kernel

/-- A gather picks the row of each row's class. -/
theorem gather_at (x : FVec Ideal S100x128 .f32) (i : Fin 16384) (d : Fin 128) :
    Host.gather gather_S100x128_S16384x1_S16384x128_1_0_n_n_0_1_1128 x idx (ix2 i d) = x (ix2 (k i) d) :=
  Routing.gather_row (nb := 100) (B := 128) (n := 16384) gather_S100x128_S16384x1_S16384x128_1_0_n_n_0_1_1128 rfl rfl rfl rfl rfl x idx i d (k i) ((hi i).trans (hk i)) (by decide)

end Cert.ReferenceIdeal.Value
end
-- ==== Proof.RefValue.lean ====
/-
  The reference's result, read element by element through its intermediate arrays: it is the loss.
-/
module

public import proofs.«01_k».proof.Proof.Gen.ReferenceIdeal.Run
public import proofs.«01_k».proof.Proof.Scatter

@[expose] public section

set_option maxRecDepth 16384

noncomputable section

namespace Cert.ReferenceIdeal.Value

open Cert.ReferenceIdeal Cert.ReferenceIdeal.Gen Cert.Loss Idealize.ShloMosaic Idealize.ShloMosaic.StableHlo

variable (V : Valuation τ sig (Elt Ideal))

/-- The feature rows. -/
def X (i : Fin 16384) (d : Fin 128) : EReal := (V (Proc.devRef .tc main_arg0) : FVec Ideal S16384x128 .f32) (ix2 i d)
/-- The labels. -/
def L (i : Fin 16384) : BitVec 32 := (V (Proc.devRef .tc main_arg1) : IVec S16384 32) (ix1 i)
/-- The centers. -/
def Z (k : Fin 100) (d : Fin 128) : EReal := (V (Proc.devRef .tc main_arg2) : FVec Ideal S100x128 .f32) (ix2 k d)

variable {V} {k : Fin 16384 → Fin 100} (hk : ∀ i, L V i = BitVec.ofNat 32 (k i).val) (hx : ∀ i, dot (X V i) (X V i) < ⊤)

/-! ## The label columns -/

include hk

/-- The labels as a column. -/
theorem column_at (i : Fin 16384) :
    broadcastInDim S16384x1 ![0] bcast_S16384_S16384x1_0 (V (Proc.devRef .tc main_arg1) : IVec S16384 32) (ix2 i 0) = L V i := by
  pointwise
  rfl

/-- The clamped labels are the labels. -/
theorem v1_at (i : Fin 16384) : (res_main_v1 V : IVec S16384 32) (ix1 i) = L V i := by
  have h : (V (Proc.devRef .tc main_arg1) : IVec S16384 32) (ix1 i) = BitVec.ofNat 32 (k i).val := hk i
  rw [hk]
  pointwise [res_main_v1]
  exact (congrArg (IntOp.maxsi 0#32) h).trans (word_max (k i))

/-- The wrapped labels are the labels. -/
theorem wrapped_at (w : IVec S16384 32) (hw : ∀ i, w (ix1 i) = L V i) (i : Fin 16384) :
    broadcastInDim S16384x1 ![0] bcast_S16384_S16384x1_0 (select (cmpi .slt w (broadcastInDim S16384 ![] bcast_S_S16384 (constantI S_ 32 0#32))) (addi w (broadcastInDim S16384 ![] bcast_S_S16384 (constantI S_ 32 100#32))) w) (ix2 i 0) = L V i := by
  pointwise
  rw [hw, hk, word_slt]
  exact if_neg (by decide)

/-! ## The class counts, sums and means -/

theorem v10_at (a : Fin 100) : (res_main_v10 V : FVec Ideal S100 .f32) (ix1 a) = count (L V) a.val :=
  scatterCount_at hk (wrapped_at hk (res_main_v1 V) (v1_at hk)) _ (fun _ => rfl) _ (fun _ => rfl) a

theorem v13_at (a : Fin 100) : (res_main_v13 V : FVec Ideal S100 .f32) (ix1 a) = orOne (count (L V) a.val) := by
  have h := v10_at hk a
  unfold res_main_v13
  generalize res_main_v10 V = y at *
  pointwise
  rw [h, id]
  unfold orOne
  pointwise

omit hk in
theorem v16_at (d : Fin 128) : (res_main_v16 V : FVec Ideal S128 .f32) (ix1 d) = avg (X V) d := by
  unfold res_main_v16 avg X
  pointwise

theorem v22_at (a : Fin 100) (d : Fin 128) : (res_main_v22 V : FVec Ideal S100x128 .f32) (ix2 a d) = mean (X V) (L V) a.val d := by
  have h := v13_at hk a
  unfold res_main_v22 mean
  generalize res_main_v13 V = y at *
  pointwise
  rw [h, scatter2_at hk (column_at hk)]
  pointwise
  rfl

include hx

/-- The means are real numbers, so replacing what is not a number or infinite changes nothing. -/
theorem v23_at (a : Fin 100) (d : Fin 128) : (res_main_v23 V : FVec Ideal S100x128 .f32) (ix2 a d) = mean (X V) (L V) a.val d := by
  have h := v22_at hk a d
  obtain ⟨r, hr⟩ := mean_real (l := L V) (X V) hx a.val d
  rw [hr] at h ⊢
  unfold res_main_v23 res_main_call2_v4 res_main_call2_v1
  generalize res_main_v22 V = y at *
  pointwise
  simp only [h]
  rw [inf_word, neg_inf_word, if_neg (not_not_intro rfl), if_neg (EReal.coe_ne_top r), if_neg (EReal.coe_ne_bot r)]

theorem v24_at (a : Fin 100) : (res_main_v24 V : FVec Ideal S100 .f32) (ix1 a) = Loss.norm (mean (X V) (L V) a.val) := by
  have h := v23_at hk hx a
  unfold res_main_v24 Loss.norm dot
  generalize res_main_v23 V = y at *
  pointwise
  simp only [h]

theorem v34_at (a : Fin 100) : (res_main_v34 V : FVec Ideal S100 .f32) (ix1 a) = classGap (X V) (L V) a.val := by
  have h3 := v23_at hk hx a
  have h4 := v24_at hk hx a
  have h6 := v16_at (V := V)
  unfold res_main_v34 classGap Loss.norm dot orOne
  generalize res_main_v23 V = y3 at *
  generalize res_main_v24 V = y4 at *
  generalize res_main_v16 V = y6 at *
  pointwise
  simp only [h3, h4, h6, id]
  pointwise
  rfl

/-! ## The rows' gaps -/

theorem v46_at (i : Fin 16384) (d : Fin 128) : (res_main_v46 V : FVec Ideal S16384x128 .f32) (ix2 i d) = mean (X V) (L V) (k i).val d :=
  (gather_at hk (wrapped_at hk (V (Proc.devRef .tc main_arg1)) fun _ => rfl) (res_main_v23 V) i d).trans (v23_at hk hx (k i) d)

omit hx in
theorem v72_at (i : Fin 16384) (d : Fin 128) : (res_main_v72 V : FVec Ideal S16384x128 .f32) (ix2 i d) = Z V (k i) d :=
  gather_at hk (wrapped_at hk (V (Proc.devRef .tc main_arg1)) fun _ => rfl) (V (Proc.devRef .tc main_arg2)) i d

theorem v54_at (i : Fin 16384) : (res_main_v54 V : FVec Ideal S16384 .f32) (ix1 i) = gap (X V i) (mean (X V) (L V) (k i).val) := by
  have h := v46_at hk hx i
  unfold res_main_v54 gap Loss.norm dot X
  generalize res_main_v46 V = y at *
  pointwise
  simp only [h]
  rfl

omit hx in
theorem v80_at (i : Fin 16384) : (res_main_v80 V : FVec Ideal S16384 .f32) (ix1 i) = gap (X V i) (Z V (k i)) := by
  have h := v72_at hk i
  unfold res_main_v80 gap Loss.norm dot X
  generalize res_main_v72 V = y at *
  pointwise
  simp only [h]

/-! ## The result -/

theorem result_at (i : S_.Idx) : (addf (Host.divf (Host.reduceAdd (mulf (mulf (Host.divf (broadcastInDim S100 ![] bcast_S_S100 (constant S_ .f32 0x3F800000#32)) (res_main_v13 V)) (Host.scatterAdd scatter_S100_S16384x1_S16384_n_0_0_1 (broadcastInDim S100 ![] bcast_S_S100 (constant S_ .f32 0x00000000#32)) (broadcastInDim S16384x1 ![0] bcast_S16384_S16384x1_0 (V (Proc.devRef .tc main_arg1))) (mulf (res_main_v54 V) (res_main_v54 V)))) (Host.divf (res_main_v10 V) (broadcastInDim S100 ![] bcast_S_S100 (constant S_ .f32 0x46800000#32)))) (constant S_ .f32 0x00000000#32) reducesTo_S100_S_d0 h_S_) (Host.reduceAdd (mulf (mulf (Host.divf (res_main_v10 V) (broadcastInDim S100 ![] bcast_S_S100 (constant S_ .f32 0x46800000#32))) (res_main_v34 V)) (res_main_v34 V)) (constant S_ .f32 0x00000000#32) reducesTo_S100_S_d0 h_S_)) (Host.divf (Host.reduceAdd (mulf (res_main_v80 V) (res_main_v80 V)) (constant S_ .f32 0x00000000#32) reducesTo_S16384_S_d0 h_S_) (constant S_ .f32 0x46800000#32)) : FVec Ideal S_ .f32) i = loss (X V) (L V) (Z V) k := by
  have h10 := v10_at hk
  have h13 := v13_at hk
  have h34 := v34_at hk hx
  have h54 := v54_at hk hx
  have h80 := v80_at hk
  generalize res_main_v10 V = y10 at *
  generalize res_main_v13 V = y13 at *
  generalize res_main_v34 V = y34 at *
  generalize res_main_v54 V = y54 at *
  generalize res_main_v80 V = y80 at *
  rw [show i = ix0 from funext fun a => a.elim0]
  pointwise
  simp only [scatter1_at hk (column_at hk), h10, h13, h34, h80]
  pointwise
  simp only [h54, zero_add]
  exact congrArg₂ (· + ·) (congrArg₂ Ideal.div (sum_weigh hk (fun i => gap (X V i) (mean (X V) (L V) (k i).val) * gap (X V i) (mean (X V) (L V) (k i).val)) fun _ => square_nonneg _) rfl) rfl

end Cert.ReferenceIdeal.Value
end
-- ==== Proof.Domain.lean ====
/-
  The precondition read element by element: every label names a class, and every row's square sum is positive and finite.
-/
module

public import proofs.«01_k».proof.Pre_rows_in_domain
public import proofs.«01_k».proof.Proof.Gen.ReferenceIdeal
public import proofs.«01_k».proof.Proof.Loss
public import Idealize.ShloMosaic.Lib.Pointwise
public import Idealize.ShloMosaic.Lib.StableHlo.Predicate

@[expose] public section

set_option maxRecDepth 16384

noncomputable section

namespace Cert.Pre_rows_in_domain

open Cert.Loss Idealize.ShloMosaic

/-- The shape conditions of the precondition's operations, which are among the reference's. -/
theorem facts : Facts where
  reducesTo_S16384x128_S16384_d1 := Cert.ReferenceIdeal.Gen.facts.reducesTo_S16384x128_S16384_d1
  h_S_ := Cert.ReferenceIdeal.Gen.facts.h_S_
  bcast_S_S16384 := Cert.ReferenceIdeal.Gen.facts.bcast_S_S16384

/-- A conjunction of two bits is set where both are. -/
theorem both {a b : BitVec 1} (h : IntOp.andi a b = 1#1) : a = 1#1 ∧ b = 1#1 :=
  (by decide : ∀ a b : BitVec 1, IntOp.andi a b = 1#1 → a = 1#1 ∧ b = 1#1) a b h

/-- A word from zero to below a hundred, compared signed, is a class's word. -/
theorem exists_class (w : BitVec 32) (h0 : IntOp.cmpi .sge w 0#32 = 1#1) (h1 : IntOp.cmpi .slt w 100#32 = 1#1) :
    ∃ a : Fin 100, w = BitVec.ofNat 32 a.val := by
  have h : w.toNat < 100 := by
    simp only [IntOp.cmpi, StableHlo.Predicate.ofBool_eq_one_iff, BitVec.sle, BitVec.slt, decide_eq_true_eq] at h0 h1
    have e0 : (0#32).toInt = 0 := by decide
    have e1 : (100#32).toInt = 100 := by decide
    rw [e0] at h0
    rw [e1] at h1
    rw [BitVec.toInt_eq_toNat_cond] at h0 h1
    have := w.isLt
    split at h0 <;> omega
  exact ⟨⟨w.toNat, h⟩, by simp⟩

variable [Facts] (f : FVec Ideal S16384x128 .f32) (l : IVec S16384 32) (z : FVec Ideal S100x128 .f32)

/-- What the precondition says of row `i`. -/
theorem decode (h : fn f l z = fun _ => 1#1) (i : Fin 16384) :
    (∃ a : Fin 100, l (ix1 i) = BitVec.ofNat 32 a.val)
      ∧ 0 < dot (fun d => f (ix2 i d)) (fun d => f (ix2 i d)) ∧ dot (fun d => f (ix2 i d)) (fun d => f (ix2 i d)) < ⊤ := by
  have hi := congrFun h (ix1 i)
  unfold fn at hi
  pointwise at hi
  obtain ⟨hi, h3⟩ := both hi
  obtain ⟨hi, h2⟩ := both hi
  obtain ⟨h0, h1⟩ := both hi
  rw [StableHlo.Predicate.ofBool_eq_one_iff, decide_eq_true_eq] at h2 h3
  rw [inf_word] at h3
  exact ⟨exists_class _ h0 h1, h2, h3⟩

end Cert.Pre_rows_in_domain
end
-- ==== Proof.lean ====
/- The certificate's claim, put together from the modules under Proof/. -/
module

public import proofs.«01_k».proof.Defs
public import proofs.«01_k».proof.Proof.Launch
public import proofs.«01_k».proof.Proof.LaunchIdeal
public import proofs.«01_k».proof.Proof.KernelValue
public import proofs.«01_k».proof.Proof.RefValue
public import proofs.«01_k».proof.Proof.Domain
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs, leaves its arguments as they were and every semaphore at zero. -/
theorem quiescent_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- The reference's run, with its result as the loss of its own arguments. -/
theorem reference_run (m : (ℓ : Loc Cert.ReferenceIdeal.nD Cert.ReferenceIdeal.τ Cert.ReferenceIdeal.sig) → Buf (Elt Ideal) ℓ) (g : Dev Cert.ReferenceIdeal.nD → PrngReg)
    (k : (c : Dev Cert.ReferenceIdeal.nD) → Fin 16384 → Fin 100)
    (hk : ∀ c i, ReferenceIdeal.Value.L (StableHlo.launchContents m c) i = BitVec.ofNat 32 (k c i).val)
    (hx : ∀ c i, Loss.dot (ReferenceIdeal.Value.X (StableHlo.launchContents m c) i) (ReferenceIdeal.Value.X (StableHlo.launchContents m c) i) < ⊤) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v85)
          = (fun _ => Loss.loss (ReferenceIdeal.Value.X (StableHlo.launchContents m c)) (ReferenceIdeal.Value.L (StableHlo.launchContents m c)) (ReferenceIdeal.Value.Z (StableHlo.launchContents m c)) (k c))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c).1.trans (funext fun i => ReferenceIdeal.Value.result_at (hk c) (hx c) i), (h c).2⟩)
    (Cert.ReferenceIdeal.Value.run m g)

/-- On rows in the domain the kernel and the reference end with the same loss. -/
theorem algebraic : Cert.algebraic_KernelIdeal_ReferenceIdeal_pre_rows_in_domain (hKernelIdeal := Cert.KernelIdeal.Gen.facts)
    (hReferenceIdeal := Cert.ReferenceIdeal.Gen.facts) (hPre_rows_in_domain := Cert.Pre_rows_in_domain.facts) := by
  intro m g m' g' hpre hagree
  letI := Cert.Pre_rows_in_domain.facts
  have hd := fun c i => Cert.Pre_rows_in_domain.decode _ _ _ (hpre c) i
  choose k hk using fun c i => (hd c i).1
  have hx := fun c i => (hd c i).2
  have e0 : ∀ c, ReferenceIdeal.Value.X (StableHlo.launchContents m' c) = KernelIdeal.Body.X m c := fun c =>
    funext fun i => funext fun d => congrFun (hagree c).1 (ix2 i d)
  have e1 : ∀ c, ReferenceIdeal.Value.L (StableHlo.launchContents m' c) = KernelIdeal.Body.L m c := fun c =>
    funext fun i => congrFun (hagree c).2.1 (ix1 i)
  have e2 : ∀ c, ReferenceIdeal.Value.Z (StableHlo.launchContents m' c) = KernelIdeal.Body.Z m c := fun c =>
    funext fun a => funext fun d => congrFun (hagree c).2.2 (ix2 a d)
  refine ⟨fun c _ => Loss.loss (KernelIdeal.Body.X m c) (KernelIdeal.Body.L m c) (KernelIdeal.Body.Z m c) (k c), ?_, ?_⟩
  · exact (θ_run _ _ _).mono (fun _ h c => ⟨(h c).1.trans (funext fun _ => KernelIdeal.Body.outv_eq (hk c) (hx c) 0 0), (h c).2⟩)
      (KernelIdeal.Body.run_value m g)
  · refine (θ_run _ _ _).mono (fun _ h c => ⟨(h c).1.trans ?_, (h c).2⟩)
      (reference_run m' g' k (fun c i => (congrFun (e1 c) i).trans (hk c i)) (fun c i => by rw [e0]; exact (hx c i).2))
    rw [e0, e1, e2]
    rfl

/-- Everything the certificate claims. -/
theorem claim : Cert.Claim :=
  ⟨Cert.Kernel.Gen.facts, Cert.KernelIdeal.Gen.facts, Cert.ReferenceIdeal.Gen.facts, Cert.Pre_rows_in_domain.facts,
    fun m g _ => Cert.Kernel.Body.frame m g, fun m g _ => Cert.KernelIdeal.Body.frame m g, fun m g _ => Cert.KernelIdeal.Body.frame m g,
    quiescent_reference, fun m g _ => quiescent_reference m g trivial, trivial, algebraic⟩

end Cert.Proof

end
